-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite_KernelIdeal [hPre_router_finite_KernelIdeal : Cert.Pre_router_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_router_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite_ReferenceIdeal [hPre_router_finite_ReferenceIdeal : Cert.Pre_router_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_router_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite_KernelIdeal [hKernelIdeal : Cert.KernelIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite_ReferenceIdeal [hReferenceIdeal : Cert.ReferenceIdeal.Facts] [hPre_router_finite_ReferenceIdeal : Cert.Pre_router_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite_KernelIdeal [hKernelIdeal : Cert.KernelIdeal.Facts] [hReferenceIdeal : Cert.ReferenceIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![1024, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite_KernelIdeal : Cert.Pre_router_finite_KernelIdeal.Facts) (hPre_router_finite_ReferenceIdeal : Cert.Pre_router_finite_ReferenceIdeal.Facts),
    quiescent_Kernel (hKernel := hKernel)
    ∧ quiescent_KernelIdeal (hKernelIdeal := hKernelIdeal)
    ∧ quiescent_KernelIdeal_pre_router_finite_KernelIdeal (hKernelIdeal := hKernelIdeal) (hPre_router_finite_KernelIdeal := hPre_router_finite_KernelIdeal)
    ∧ quiescent_ReferenceIdeal (hReferenceIdeal := hReferenceIdeal)
    ∧ quiescent_ReferenceIdeal_pre_router_finite_ReferenceIdeal (hReferenceIdeal := hReferenceIdeal) (hPre_router_finite_ReferenceIdeal := hPre_router_finite_ReferenceIdeal)
    ∧ preserves_Kernel_KernelIdeal
    ∧ algebraic_KernelIdeal_ReferenceIdeal_pre_router_finite_KernelIdeal (hKernelIdeal := hKernelIdeal) (hReferenceIdeal := hReferenceIdeal) (hPre_router_finite_KernelIdeal := hPre_router_finite_KernelIdeal)
-- ==== Pre_router_finite_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x32 : S_.BroadcastsInDim S256x32 (![] : Fin 0 → Fin S256x32.rank)

variable [Facts]

def fn {F : FTy → Type} [FloatOps F] (main_arg0 : FVec F S1024x256 .f32) (main_arg1 : FVec F S256x32 .f32) (main_arg2 : IVec S1024x1 32) (main_arg3 : FVec F S4x256x512 .f32) (main_arg4 : FVec F S256x512 .f32) : IVec S1024x256 1 × IVec S256x32 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  (main_v2, main_v5)
-- ==== Pre_router_finite_ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x32 : S_.BroadcastsInDim S256x32 (![] : Fin 0 → Fin S256x32.rank)

variable [Facts]

def fn {F : FTy → Type} [FloatOps F] (main_arg0 : FVec F S1024x256 .f32) (main_arg1 : FVec F S256x32 .f32) (main_arg2 : IVec S1024x1 32) (main_arg3 : FVec F S32x256x512 .f32) (main_arg4 : FVec F S256x512 .f32) : IVec S1024x256 1 × IVec S256x32 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  (main_v2, main_v5)
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S128x512 : Shape := ⟨2, ![128, 512]⟩
abbrev S1024x512 : Shape := ⟨2, ![1024, 512]⟩
abbrev S7x128x512 : Shape := ⟨3, ![7, 128, 512]⟩
abbrev S4x1024x256 : Shape := ⟨3, ![4, 1024, 256]⟩
abbrev S7 : Shape := ⟨1, ![7]⟩
abbrev S_ : Shape := ⟨0, ![]⟩
abbrev S1024x32 : Shape := ⟨2, ![1024, 32]⟩
abbrev S1024 : Shape := ⟨1, ![1024]⟩
abbrev S1024x4 : Shape := ⟨2, ![1024, 4]⟩
abbrev S1x1024x256 : Shape := ⟨3, ![1, 1024, 256]⟩
abbrev S1x128x256 : Shape := ⟨3, ![1, 128, 256]⟩
abbrev S128x256 : Shape := ⟨2, ![128, 256]⟩
abbrev S1x256x512 : Shape := ⟨3, ![1, 256, 512]⟩
abbrev S1 : Shape := ⟨1, ![1]⟩
abbrev S1x128x512 : Shape := ⟨3, ![1, 128, 512]⟩

abbrev nBuf : Space → Nat
  | .hbm => 6
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S128x512, .f32⟩
  | .local _ .vmem, ⟨0, _⟩ => ⟨S1024x256, .f32⟩
  | .local _ .vmem, ⟨1, _⟩ => ⟨S256x32, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S128x512, .f32⟩
  | .local _ .vmem, ⟨6, _⟩ => ⟨S1024x512, .f32⟩
  | .local _ .vmem, ⟨7, _⟩ => ⟨S7x128x512, .f32⟩
  | .local _ .vmem, ⟨8, _⟩ => ⟨S4x1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_82 : BitVec 32) : Fin 3 → Nat :=
  let c0_90 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let v166 : Index := Scalar.indexCast v164
  let c0_91 : Index := 0#32
  ![0, v166.toNat, 0]
def k0_off2 (d0 : Dev nD) (c1_i32_82 : BitVec 32) : Fin 3 → Nat :=
  let c1_96 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let v173 : Index := Scalar.indexCast v164
  let c0_97 : Index := 0#32
  ![1, v173.toNat, 0]
def k0_off3 (d0 : Dev nD) (c1_i32_82 : BitVec 32) : Fin 3 → Nat :=
  let c2_102 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let v180 : Index := Scalar.indexCast v164
  let c0_103 : Index := 0#32
  ![2, v180.toNat, 0]
def k0_off4 (d0 : Dev nD) (c1_i32_82 : BitVec 32) : Fin 3 → Nat :=
  let c3_108 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let v187 : Index := Scalar.indexCast v164
  let c0_109 : Index := 0#32
  ![3, v187.toNat, 0]
def k0_off5 (d0 : Dev nD) (c1_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let v194 : Index := Scalar.indexCast v164
  let c0_114 : Index := 0#32
  ![v194.toNat, 0]
def k0_off6 (d0 : Dev nD) (c1_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c128_i32 : BitVec 32 := 128#32
  let v164 : BitVec 32 := Scalar.muli v163 c128_i32
  let c0_i32_122 : BitVec 32 := 0#32
  ![v164.toNat, 0]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v153 : BitVec 32 := Scalar.addi v2 c1_i32_82
  let c8_i32_83 : BitVec 32 := 8#32
  let c0_i32_84 : BitVec 32 := 0#32
  let v154 : BitVec 1 := Scalar.cmpi .eq c8_i32_83 c0_i32_84
  let c1_i32_85 : BitVec 32 := 1#32
  let v155 : BitVec 32 := Scalar.select v154 c1_i32_85 c8_i32_83
  let v156 : BitVec 32 := Scalar.remsi v153 v155
  let c0_i32_87 : BitVec 32 := 0#32
  let v158 : BitVec 1 := Scalar.cmpi .slt v156 c0_i32_87
  let c0_i32_88 : BitVec 32 := 0#32
  let v159 : BitVec 1 := Scalar.cmpi .slt v155 c0_i32_88
  let v160 : BitVec 1 := Scalar.xori v158 v159
  let c0_i32_86 : BitVec 32 := 0#32
  let v157 : BitVec 1 := Scalar.cmpi .ne v156 c0_i32_86
  let v161 : BitVec 1 := Scalar.andi v160 v157
  let v162 : BitVec 32 := Scalar.addi v156 v155
  let v163 : BitVec 32 := Scalar.select v161 v162 v156
  let c1_i32_118 : BitVec 32 := 1#32
  let v198 : BitVec 32 := Scalar.muli v163 c1_i32_118
  let v199 : BitVec 32 := Scalar.addi c0_i32_119 v198
  v199.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_123 : BitVec 32 := 2#32
  let v207 : BitVec 32 := Scalar.addi v2 c2_i32_123
  let c8_i32_124 : BitVec 32 := 8#32
  let c0_i32_125 : BitVec 32 := 0#32
  let v208 : BitVec 1 := Scalar.cmpi .eq c8_i32_124 c0_i32_125
  let c1_i32_126 : BitVec 32 := 1#32
  let v209 : BitVec 32 := Scalar.select v208 c1_i32_126 c8_i32_124
  let v210 : BitVec 32 := Scalar.remsi v207 v209
  let c0_i32_128 : BitVec 32 := 0#32
  let v212 : BitVec 1 := Scalar.cmpi .slt v210 c0_i32_128
  let c0_i32_129 : BitVec 32 := 0#32
  let v213 : BitVec 1 := Scalar.cmpi .slt v209 c0_i32_129
  let v214 : BitVec 1 := Scalar.xori v212 v213
  let c0_i32_127 : BitVec 32 := 0#32
  let v211 : BitVec 1 := Scalar.cmpi .ne v210 c0_i32_127
  let v215 : BitVec 1 := Scalar.andi v214 v211
  let v216 : BitVec 32 := Scalar.addi v210 v209
  let v217 : BitVec 32 := Scalar.select v215 v216 v210
  let c1_i32_160 : BitVec 32 := 1#32
  let v252 : BitVec 32 := Scalar.muli v217 c1_i32_160
  let v253 : BitVec 32 := Scalar.addi c0_i32_161 v252
  v253.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v261 : BitVec 32 := Scalar.addi v2 c3_i32_165
  let c8_i32_166 : BitVec 32 := 8#32
  let c0_i32_167 : BitVec 32 := 0#32
  let v262 : BitVec 1 := Scalar.cmpi .eq c8_i32_166 c0_i32_167
  let c1_i32_168 : BitVec 32 := 1#32
  let v263 : BitVec 32 := Scalar.select v262 c1_i32_168 c8_i32_166
  let v264 : BitVec 32 := Scalar.remsi v261 v263
  let c0_i32_170 : BitVec 32 := 0#32
  let v266 : BitVec 1 := Scalar.cmpi .slt v264 c0_i32_170
  let c0_i32_171 : BitVec 32 := 0#32
  let v267 : BitVec 1 := Scalar.cmpi .slt v263 c0_i32_171
  let v268 : BitVec 1 := Scalar.xori v266 v267
  let c0_i32_169 : BitVec 32 := 0#32
  let v265 : BitVec 1 := Scalar.cmpi .ne v264 c0_i32_169
  let v269 : BitVec 1 := Scalar.andi v268 v265
  let v270 : BitVec 32 := Scalar.addi v264 v263
  let v271 : BitVec 32 := Scalar.select v269 v270 v264
  let c1_i32_202 : BitVec 32 := 1#32
  let v306 : BitVec 32 := Scalar.muli v271 c1_i32_202
  let v307 : BitVec 32 := Scalar.addi c0_i32_203 v306
  v307.toNat
def k0_dev11 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_207 : BitVec 32 := 4#32
  let v315 : BitVec 32 := Scalar.addi v2 c4_i32_207
  let c8_i32_208 : BitVec 32 := 8#32
  let c0_i32_209 : BitVec 32 := 0#32
  let v316 : BitVec 1 := Scalar.cmpi .eq c8_i32_208 c0_i32_209
  let c1_i32_210 : BitVec 32 := 1#32
  let v317 : BitVec 32 := Scalar.select v316 c1_i32_210 c8_i32_208
  let v318 : BitVec 32 := Scalar.remsi v315 v317
  let c0_i32_212 : BitVec 32 := 0#32
  let v320 : BitVec 1 := Scalar.cmpi .slt v318 c0_i32_212
  let c0_i32_213 : BitVec 32 := 0#32
  let v321 : BitVec 1 := Scalar.cmpi .slt v317 c0_i32_213
  let v322 : BitVec 1 := Scalar.xori v320 v321
  let c0_i32_211 : BitVec 32 := 0#32
  let v319 : BitVec 1 := Scalar.cmpi .ne v318 c0_i32_211
  let v323 : BitVec 1 := Scalar.andi v322 v319
  let v324 : BitVec 32 := Scalar.addi v318 v317
  let v325 : BitVec 32 := Scalar.select v323 v324 v318
  let c1_i32_244 : BitVec 32 := 1#32
  let v360 : BitVec 32 := Scalar.muli v325 c1_i32_244
  let v361 : BitVec 32 := Scalar.addi c0_i32_245 v360
  v361.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_249 : BitVec 32 := 5#32
  let v369 : BitVec 32 := Scalar.addi v2 c5_i32_249
  let c8_i32_250 : BitVec 32 := 8#32
  let c0_i32_251 : BitVec 32 := 0#32
  let v370 : BitVec 1 := Scalar.cmpi .eq c8_i32_250 c0_i32_251
  let c1_i32_252 : BitVec 32 := 1#32
  let v371 : BitVec 32 := Scalar.select v370 c1_i32_252 c8_i32_250
  let v372 : BitVec 32 := Scalar.remsi v369 v371
  let c0_i32_254 : BitVec 32 := 0#32
  let v374 : BitVec 1 := Scalar.cmpi .slt v372 c0_i32_254
  let c0_i32_255 : BitVec 32 := 0#32
  let v375 : BitVec 1 := Scalar.cmpi .slt v371 c0_i32_255
  let v376 : BitVec 1 := Scalar.xori v374 v375
  let c0_i32_253 : BitVec 32 := 0#32
  let v373 : BitVec 1 := Scalar.cmpi .ne v372 c0_i32_253
  let v377 : BitVec 1 := Scalar.andi v376 v373
  let v378 : BitVec 32 := Scalar.addi v372 v371
  let v379 : BitVec 32 := Scalar.select v377 v378 v372
  let c1_i32_286 : BitVec 32 := 1#32
  let v414 : BitVec 32 := Scalar.muli v379 c1_i32_286
  let v415 : BitVec 32 := Scalar.addi c0_i32_287 v414
  v415.toNat
def k0_dev13 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_291 : BitVec 32 := 6#32
  let v423 : BitVec 32 := Scalar.addi v2 c6_i32_291
  let c8_i32_292 : BitVec 32 := 8#32
  let c0_i32_293 : BitVec 32 := 0#32
  let v424 : BitVec 1 := Scalar.cmpi .eq c8_i32_292 c0_i32_293
  let c1_i32_294 : BitVec 32 := 1#32
  let v425 : BitVec 32 := Scalar.select v424 c1_i32_294 c8_i32_292
  let v426 : BitVec 32 := Scalar.remsi v423 v425
  let c0_i32_296 : BitVec 32 := 0#32
  let v428 : BitVec 1 := Scalar.cmpi .slt v426 c0_i32_296
  let c0_i32_297 : BitVec 32 := 0#32
  let v429 : BitVec 1 := Scalar.cmpi .slt v425 c0_i32_297
  let v430 : BitVec 1 := Scalar.xori v428 v429
  let c0_i32_295 : BitVec 32 := 0#32
  let v427 : BitVec 1 := Scalar.cmpi .ne v426 c0_i32_295
  let v431 : BitVec 1 := Scalar.andi v430 v427
  let v432 : BitVec 32 := Scalar.addi v426 v425
  let v433 : BitVec 32 := Scalar.select v431 v432 v426
  let c1_i32_328 : BitVec 32 := 1#32
  let v468 : BitVec 32 := Scalar.muli v433 c1_i32_328
  let v469 : BitVec 32 := Scalar.addi c0_i32_329 v468
  v469.toNat
def k0_dev14 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_333 : BitVec 32 := 7#32
  let v477 : BitVec 32 := Scalar.addi v2 c7_i32_333
  let c8_i32_334 : BitVec 32 := 8#32
  let c0_i32_335 : BitVec 32 := 0#32
  let v478 : BitVec 1 := Scalar.cmpi .eq c8_i32_334 c0_i32_335
  let c1_i32_336 : BitVec 32 := 1#32
  let v479 : BitVec 32 := Scalar.select v478 c1_i32_336 c8_i32_334
  let v480 : BitVec 32 := Scalar.remsi v477 v479
  let c0_i32_338 : BitVec 32 := 0#32
  let v482 : BitVec 1 := Scalar.cmpi .slt v480 c0_i32_338
  let c0_i32_339 : BitVec 32 := 0#32
  let v483 : BitVec 1 := Scalar.cmpi .slt v479 c0_i32_339
  let v484 : BitVec 1 := Scalar.xori v482 v483
  let c0_i32_337 : BitVec 32 := 0#32
  let v481 : BitVec 1 := Scalar.cmpi .ne v480 c0_i32_337
  let v485 : BitVec 1 := Scalar.andi v484 v481
  let v486 : BitVec 32 := Scalar.addi v480 v479
  let v487 : BitVec 32 := Scalar.select v485 v486 v480
  let c1_i32_370 : BitVec 32 := 1#32
  let v522 : BitVec 32 := Scalar.muli v487 c1_i32_370
  let v523 : BitVec 32 := Scalar.addi c0_i32_371 v522
  v523.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_375 : BitVec 32 := 128#32
  let v531 : BitVec 32 := Scalar.muli v2 c128_i32_375
  let v532 : Index := Scalar.indexCast v531
  let c0_376 : Index := 0#32
  ![v532.toNat, 0]
def k0_off8 (d0 : Dev nD) : Fin 3 → Nat :=
  let c0_380 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_375 : BitVec 32 := 128#32
  let v531 : BitVec 32 := Scalar.muli v2 c128_i32_375
  let v538 : Index := Scalar.indexCast v531
  let c0_381 : Index := 0#32
  ![0, v538.toNat, 0]
def k0_off9 (d0 : Dev nD) : Fin 3 → Nat :=
  let c1_386 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_375 : BitVec 32 := 128#32
  let v531 : BitVec 32 := Scalar.muli v2 c128_i32_375
  let v545 : Index := Scalar.indexCast v531
  let c0_387 : Index := 0#32
  ![1, v545.toNat, 0]
def k0_off10 (d0 : Dev nD) : Fin 3 → Nat :=
  let c2_392 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_375 : BitVec 32 := 128#32
  let v531 : BitVec 32 := Scalar.muli v2 c128_i32_375
  let v552 : Index := Scalar.indexCast v531
  let c0_393 : Index := 0#32
  ![2, v552.toNat, 0]
def k0_off11 (d0 : Dev nD) : Fin 3 → Nat :=
  let c3_398 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_375 : BitVec 32 := 128#32
  let v531 : BitVec 32 := Scalar.muli v2 c128_i32_375
  let v559 : Index := Scalar.indexCast v531
  let c0_399 : Index := 0#32
  ![3, v559.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S1024x32 : Shape := ⟨2, ![1024, 32]⟩
abbrev S_ : Shape := ⟨0, ![]⟩
abbrev S1024 : Shape := ⟨1, ![1024]⟩
abbrev S1024x512 : Shape := ⟨2, ![1024, 512]⟩
abbrev S1024x2 : Shape := ⟨2, ![1024, 2]⟩
abbrev S2 : Shape := ⟨1, ![2]⟩
abbrev S1x2 : Shape := ⟨2, ![1, 2]⟩
abbrev S1024x256x512 : Shape := ⟨3, ![1024, 256, 512]⟩

abbrev nBuf : Space → Nat
  | .hbm => 44
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S32x256x512, .f32⟩
  | .hbm, ⟨4, _⟩ => ⟨S256x512, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x32, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x32, .f32⟩
  | .hbm, ⟨16, _⟩ => ⟨S1024x32, .f32⟩
  | .hbm, ⟨17, _⟩ => ⟨S1024x512, .f32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x1, .i32⟩
  | .hbm, ⟨22, _⟩ => ⟨S1024x2, .i32⟩
  | .hbm, ⟨23, _⟩ => ⟨S2, .i32⟩
  | .hbm, ⟨24, _⟩ => ⟨S_, .i32⟩
  | .hbm, ⟨25, _⟩ => ⟨S1024x2, .i32⟩
  | .hbm, ⟨26, _⟩ => ⟨S1024x2, .i1⟩
  | .hbm, ⟨27, _⟩ => ⟨S1x2, .i32⟩
  | .hbm, ⟨28, _⟩ => ⟨S1024x2, .i32⟩
  | .hbm, ⟨29, _⟩ => ⟨S1024x2, .i1⟩
  | .hbm, ⟨30, _⟩ => ⟨S1024x2, .i1⟩
  | .hbm, ⟨31, _⟩ => ⟨S_, .i1⟩
  | .hbm, ⟨32, _⟩ => ⟨S1024, .i1⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .i32⟩
  | .hbm, ⟨38, _⟩ => ⟨S1024x256x512, .f32⟩
  | .hbm, ⟨39, _⟩ => ⟨S1024x512, .f32⟩
  | .hbm, ⟨40, _⟩ => ⟨S1024x1, .f32⟩
  | .hbm, ⟨41, _⟩ => ⟨S1024x512, .f32⟩
  | .hbm, ⟨42, _⟩ => ⟨S1024x512, .f32⟩
  | .hbm, ⟨43, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Proto.lean ====
/- The protocol of the kernel on the eight devices: which device writes which block where, the semaphores and
   what each unit on them hands over, what every device owes at launch, and the contents the body computes. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.ValueIdxCore
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's rounds, and the exchange's with duty names `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters at zero. -/
def start0 : MemSt nD τ sig (Elt F) := ⟨m, fun _ => 0, ρ⟩

/-! ## Who writes to whom -/

set_option backward.proofsInPublic true in
/-- The device that device `c` addresses in its exchange number `s`: the one `s + 1` places after it. -/
def peer (c : Dev nD) (s : Fin 7) : Dev nD := ⟨(c.val + s.val + 1) % 8, Nat.mod_lt _ (by decide)⟩
set_option backward.proofsInPublic true in
/-- The device whose exchange number `s` addresses `c`. -/
def src (c : Dev nD) (s : Fin 7) : Dev nD := ⟨(c.val + 7 - s.val) % 8, Nat.mod_lt _ (by decide)⟩
/-- The exchange number by which the peer of exchange `s` writes back to `c`. -/
def opp (s : Fin 7) : Fin 7 := Fin.rev s

theorem src_peer (s : Fin 7) (c : Dev nD) : src (peer c s) s = c := by revert s c; decide
theorem peer_src (s : Fin 7) (c : Dev nD) : peer (src c s) s = c := by revert s c; decide
theorem peer_opp (s : Fin 7) (c : Dev nD) : peer (peer c s) (opp s) = c := by revert s c; decide
theorem peer_eq_iff (s : Fin 7) (d c : Dev nD) : peer d s = c ↔ d = src c s := by revert s d c; decide
theorem opp_opp (s : Fin 7) : opp (opp s) = s := Fin.rev_rev s
theorem peer_ne (s : Fin 7) (c : Dev nD) : peer c s ≠ c := by revert s c; decide

/-- For each exchange number the devices and their peers correspond one to one. -/
def ring (s : Fin 7) : Dev nD ≃ Dev nD := ⟨fun c => peer c s, fun c => src c s, src_peer s, peer_src s⟩

/-- The device named by the signal number `s` and by the remote copy number `s` is the peer. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-- The exchange number as the program's word for it (counted from one). -/
abbrev word (s : Fin 7) : BitVec 32 := BitVec.ofNat 32 (1 + s.val)

theorem off1_eq : ∀ (c : Dev nD) (s : Fin 7), k0_off1 c (word s) = ![0, 128 * (peer c s).val, 0] := by decide +kernel
theorem off2_eq : ∀ (c : Dev nD) (s : Fin 7), k0_off2 c (word s) = ![1, 128 * (peer c s).val, 0] := by decide +kernel
theorem off3_eq : ∀ (c : Dev nD) (s : Fin 7), k0_off3 c (word s) = ![2, 128 * (peer c s).val, 0] := by decide +kernel
theorem off4_eq : ∀ (c : Dev nD) (s : Fin 7), k0_off4 c (word s) = ![3, 128 * (peer c s).val, 0] := by decide +kernel
theorem off5_eq : ∀ (c : Dev nD) (s : Fin 7), k0_off5 c (word s) = ![128 * (peer c s).val, 0] := by decide +kernel
theorem off6_eq : ∀ (c : Dev nD) (s : Fin 7), k0_off6 c (word s) = ![128 * (peer c s).val, 0] := by decide +kernel
theorem off7_eq : ∀ c : Dev nD, k0_off7 c = ![128 * c.val, 0] := by decide +kernel
theorem off8_eq : ∀ c : Dev nD, k0_off8 c = ![0, 128 * c.val, 0] := by decide +kernel
theorem off9_eq : ∀ c : Dev nD, k0_off9 c = ![1, 128 * c.val, 0] := by decide +kernel
theorem off10_eq : ∀ c : Dev nD, k0_off10 c = ![2, 128 * c.val, 0] := by decide +kernel
theorem off11_eq : ∀ c : Dev nD, k0_off11 c = ![3, 128 * c.val, 0] := by decide +kernel

/-! ## Buffers, blocks of rows, slots, semaphores -/

abbrev xM : Memref sig .tc .vmem S1024x256 .f32 := Memref.whole cc0_stg0_0
abbrev rM : Memref sig .tc .vmem S256x32 .f32 := Memref.whole cc0_stg1_0
abbrev iM : Memref sig .tc .vmem S1024x1 .i32 := Memref.whole cc0_stg2_0
abbrev eM : Memref sig .tc .vmem S4x256x512 .f32 := Memref.whole cc0_stg3_0
abbrev wM : Memref sig .tc .vmem S256x512 .f32 := Memref.whole cc0_stg4_0
abbrev oM : Memref sig .tc .vmem S128x512 .f32 := Memref.whole cc0_stg5_0
abbrev pM : Memref sig .tc .vmem S1024x512 .f32 := Memref.whole cc0_scratch0
abbrev cM : Memref sig .tc .vmem S7x128x512 .f32 := Memref.whole cc0_scratch1
abbrev xwM : Memref sig .tc .vmem S4x1024x256 .f32 := Memref.whole cc0_scratch2

theorem rows_inb (d : Dev nD) : ∀ a, (![128 * d.val, 0] : Fin 2 → ℕ) a + S128x512.size a ≤ S1024x512.size a := by
  revert d; decide
theorem slot_inb (s : Fin 7) : ∀ a, (![s.val, 0, 0] : Fin 3 → ℕ) a + S1x128x512.size a ≤ S7x128x512.size a := by
  revert s; decide
theorem sem_inb (s : Fin 7) : ∀ a, (![s.val] : Fin 1 → ℕ) a + S1.size a ≤ S7.size a := by revert s; decide

/-- The 128 rows of the partial-sum buffer that belong to device `d`. -/
abbrev rowsR (d : Dev nD) : Rect S1024x512 := Rect.unit (s := S1024x512) ![128 * d.val, 0] S128x512.size (rows_inb d)
abbrev rowsM (d : Dev nD) : Memref sig .tc .vmem S128x512 .f32 := pM.slice (rowsR d) (fun _ => rfl)
/-- Slot `s` of the receive buffer. -/
abbrev slotR (s : Fin 7) : Rect S7x128x512 := Rect.unit (s := S7x128x512) ![s.val, 0, 0] S1x128x512.size (slot_inb s)
abbrev slotM (s : Fin 7) : Memref sig .tc .vmem S128x512 .f32 :=
  (cM.slice (slotR s) (fun _ => rfl)).squeeze S128x512 squeezes_S1x128x512_S128x512

abbrev barS : Sem sig := (SemArray.scalar (sig.barrier 0 rfl) : Sems sig S_).sem
abbrev sendS (s : Fin 7) : DmaSem sig :=
  ((cc0_scratch3.slice (Rect.unit (s := S7) ![s.val] S1.size (sem_inb s))).squeeze S_ squeezes_S1_S_).sem
abbrev recvS (s : Fin 7) : DmaSem sig :=
  ((cc0_scratch4.slice (Rect.unit (s := S7) ![s.val] S1.size (sem_inb s))).squeeze S_ squeezes_S1_S_).sem

theorem sendS_inj : ∀ s t : Fin 7, sendS s = sendS t → s = t := by decide
theorem recvS_inj : ∀ s t : Fin 7, recvS s = recvS t → s = t := by decide
theorem sendS_ne_recvS : ∀ s t : Fin 7, sendS s ≠ recvS t := by decide

/-- A device's fifteen semaphores of the exchange: its barrier, its seven send and its seven receive semaphores. -/
abbrev Cell : Type := Option (Bool × Fin 7)
abbrev bar : Cell := none
abbrev snd (s : Fin 7) : Cell := some (false, s)
abbrev rcv (s : Fin 7) : Cell := some (true, s)

abbrev csem : Cell → SemLoc sig
  | none => .reg barS
  | some (false, s) => .dma (sendS s)
  | some (true, s) => .dma (recvS s)

abbrev cell (c : Dev nD) (k : Cell) : GSem nD τ sig := ((c : Thread nD τ), csem k)

theorem csem_inj : Function.Injective csem := by
  intro a b h
  rcases a with _ | ⟨_ | _, s⟩ <;> rcases b with _ | ⟨_ | _, t⟩
  · rfl
  · cases h
  · cases h
  · cases h
  · rw [sendS_inj s t (by injection h)]
  · exact absurd (by injection h) (sendS_ne_recvS s t)
  · cases h
  · exact absurd (by injection h with h'; exact h'.symm) (sendS_ne_recvS t s)
  · rw [recvS_inj s t (by injection h)]

theorem cell_inj {c d : Dev nD} {k l : Cell} : cell c k = cell d l ↔ c = d ∧ k = l :=
  ⟨fun h => ⟨Fin.ext (congrArg (fun g : GSem nD τ sig => g.1.1.val) h), csem_inj (congrArg Prod.snd h)⟩,
    fun h => by rw [h.1, h.2]⟩

/-- The credit of one block of 128 rows. -/
abbrev N : ℕ := (slotM 0).view.dmaCredit
theorem N_pos : 0 < N := View.dmaCredit_pos _ (by decide)

/-! ## The contents -/

/-- What device `c`'s staging buffers of its inputs hold. -/
abbrev X0 (c : Dev nD) : FVec F S1024x256 .f32 := iblk m c 0 t0_0
abbrev X1 (c : Dev nD) : FVec F S256x32 .f32 := iblk m c 1 t0_0
abbrev X2 (c : Dev nD) : IVec S1024x1 32 := iblk m c 2 t0_0
abbrev X3 (c : Dev nD) : FVec F S4x256x512 .f32 := iblk m c 3 t0_0
abbrev X4 (c : Dev nD) : FVec F S256x512 .f32 := iblk m c 4 t0_0

/-- The device's number as the kernel computes it. -/
abbrev dw (c : Dev nD) : BitVec 32 := Scalar.remsi (Scalar.divsi (Dev.word c) 1#32) 8#32

/-- The gated rows of local expert `j` on device `c`, as stored. -/
def xwSlab (c : Dev nD) (j : Fin 4) : FVec F S1x1024x256 .f32 :=
  match j with
  | 0 => k0_pay3 (dw c) (X0 m c) (X1 m c) (X2 m c)
  | 1 => k0_pay5 (k0_pay4 (dw c) (X0 m c) (X1 m c) (X2 m c))
  | 2 => k0_pay6 (k0_pay1 (X0 m c)) (k0_pay2 (dw c) (X0 m c) (X1 m c) (X2 m c))
  | 3 => k0_pay7 (k0_pay1 (X0 m c)) (k0_pay2 (dw c) (X0 m c) (X1 m c) (X2 m c))

/-- The whole buffer of gated rows. -/
def xwBuf (c : Dev nD) : FVec F S4x1024x256 .f32 := fun i => xwSlab m c (i 0) (ix3 0 (i 1) (i 2))

theorem xwrow_inb (j : Fin 4) (d : Dev nD) : ∀ a, (![j.val, 128 * d.val, 0] : Fin 3 → ℕ) a + S1x128x256.size a ≤ S4x1024x256.size a := by
  revert j d; decide
theorem slab_inb (j : Fin 4) : ∀ a, (![j.val, 0, 0] : Fin 3 → ℕ) a + S1x1024x256.size a ≤ S4x1024x256.size a := by
  revert j; decide
theorem eslab_inb (j : Fin 4) : ∀ a, (![j.val, 0, 0] : Fin 3 → ℕ) a + S1x256x512.size a ≤ S4x256x512.size a := by
  revert j; decide
theorem xrow_inb (d : Dev nD) : ∀ a, (![128 * d.val, 0] : Fin 2 → ℕ) a + S128x256.size a ≤ S1024x256.size a := by
  revert d; decide

abbrev xwrowR (j : Fin 4) (d : Dev nD) : Rect S4x1024x256 :=
  Rect.unit (s := S4x1024x256) ![j.val, 128 * d.val, 0] S1x128x256.size (xwrow_inb j d)
abbrev slabR (j : Fin 4) : Rect S4x1024x256 := Rect.unit (s := S4x1024x256) ![j.val, 0, 0] S1x1024x256.size (slab_inb j)
abbrev eslabR (j : Fin 4) : Rect S4x256x512 := Rect.unit (s := S4x256x512) ![j.val, 0, 0] S1x256x512.size (eslab_inb j)
abbrev xrowR (d : Dev nD) : Rect S1024x256 := Rect.unit (s := S1024x256) ![128 * d.val, 0] S128x256.size (xrow_inb d)

/-- Device `d`'s rows of device `c`'s gated input of local expert `j`; -/
def xwrow (c : Dev nD) (j : Fin 4) (d : Dev nD) : FVec F S1x128x256 .f32 :=
  xwM.view.readAt (Elt F) (xwrowR j d).toLoadRect (xwBuf m c)
/-- and device `c`'s local expert `j`. -/
def eslab (c : Dev nD) (j : Fin 4) : FVec F S1x256x512 .f32 := eM.view.readAt (Elt F) (eslabR j).toLoadRect (X3 m c)

/-- Device `c`'s experts' contribution to the rows of device `d`. -/
def blk (c d : Dev nD) : FVec F S128x512 .f32 :=
  k0_pay14 (Scalar.ofBits .f32 0x00000000#32) (xwrow m c 0 d) (eslab m c 0) (xwrow m c 1 d) (eslab m c 1)
    (xwrow m c 2 d) (eslab m c 2) (xwrow m c 3 d) (eslab m c 3)

/-- The shared expert's and device `c`'s own experts' part of its own rows. -/
def own (c : Dev nD) : FVec F S128x512 .f32 :=
  k0_pay27 (k0_pay25 (xM.view.readAt (Elt F) (xrowR c).toLoadRect (X0 m c))) (k0_pay26 (X4 m c)) (constant S128x512 .f32 0x00000000#32)
    (xwrow m c 0 c) (eslab m c 0) (xwrow m c 1 c) (eslab m c 1) (xwrow m c 2 c) (eslab m c 2) (xwrow m c 3 c) (eslab m c 3)

/-- What device `c` reads in slot `s` of its receive buffer: the block that the sender of exchange `s` computed for it. -/
def got (c : Dev nD) (s : Fin 7) : FVec F S1x128x512 .f32 := fun i => blk m (src c s) c (ix2 (i 1) (i 2))

/-- Device `c`'s result. -/
def outAt (c : Dev nD) : FVec F S128x512 .f32 :=
  k0_pay30 (k0_pay29 (k0_pay28 (own m c) (got m c 0) (got m c 1) (got m c 2)) (got m c 3) (got m c 4)) (got m c 5) (got m c 6)

/-! ## Pieces of buffers held -/

/-- The rows of device `d` in device `c`'s partial-sum buffer, holding anything. -/
def rowsAny (c d : Dev nD) : sProp 𝕄 :=
  iprop(∃ f, (rowsM d).view.loc (c : Thread nD τ) ↦[(rowsM d).view.set]{fullShare} f)
/-- Slot `s` of device `c`'s receive buffer, holding anything; -/
def slotAny (c : Dev nD) (s : Fin 7) : sProp 𝕄 :=
  iprop(∃ f, (slotM s).view.loc (c : Thread nD τ) ↦[(slotM s).view.set]{fullShare} f)
/-- and holding the block that arrives in it. -/
def slotGot (c : Dev nD) (s : Fin 7) : sProp 𝕄 :=
  iprop(∃ f, ⌜(slotM s).view.read (Elt F) f = blk m (src c s) c⌝ ∗
    ((slotM s).view.loc (c : Thread nD τ) ↦[(slotM s).view.set]{fullShare} f))

omit [FloatOps F] in
instance rowsAny_storable (c d : Dev nD) : BI.Storable (upEmb : UEmb _ 𝕄) (rowsAny (F := F) c d) := by unfold rowsAny; infer_instance
omit [FloatOps F] in
instance slotAny_storable (c : Dev nD) (s : Fin 7) : BI.Storable (upEmb : UEmb _ 𝕄) (slotAny (F := F) c s) := by unfold slotAny; infer_instance
instance slotGot_storable (c : Dev nD) (s : Fin 7) : BI.Storable (upEmb : UEmb _ 𝕄) (slotGot m c s) := by unfold slotGot; infer_instance

/-! ## The schedule -/

abbrev IsTc (g : GSem nD τ sig) : Prop := g.1.2 = .tc
abbrev IsBar (g : GSem nD τ sig) : Prop := g.2 = .reg barS

/-- Which of the fifteen a semaphore is, if any. -/
def which (x : SemLoc sig) : Option Cell := (Finset.univ : Finset Cell).toList.find? fun k => csem k = x

theorem which_csem (k : Cell) : which (csem k) = some k := by
  unfold which
  cases h : (Finset.univ : Finset Cell).toList.find? (fun l => csem l = csem k) with
  | none =>
    have := List.find?_eq_none.mp h k (Finset.mem_toList.mpr (Finset.mem_univ k))
    exact absurd (by simp) this
  | some l => exact congrArg some (csem_inj (by simpa using List.find?_some h))

/-- What a unit of duty `d` on cell `k` of device `c` hands over. A barrier's unit `d` hands over the peer's slot that
    `c` writes in its exchange `d`; a receive cell's, the slot with the block arrived; a send cell's, the rows sent. -/
def payload (c : Dev nD) (k : Cell) (d : Fin 7) : sProp 𝕄 :=
  match k with
  | none => slotAny (peer c d) d
  | some (false, s) => rowsAny c (peer c s)
  | some (true, s) => slotGot m c s

instance payload_storable (c : Dev nD) (k : Cell) (d : Fin 7) : BI.Storable (upEmb : UEmb _ 𝕄) (payload m c k d) := by
  unfold payload; split <;> infer_instance

def dutiesOf : Cell → Finset (Fin 7)
  | none => Finset.univ
  | some _ => {0}
def amountOf : Cell → ℕ
  | none => 1
  | some _ => N
theorem amountOf_pos (k : Cell) : 0 < amountOf k := by cases k; exacts [Nat.one_pos, N_pos]

/-- One round: a barrier has seven duties of one unit, a send or receive cell one duty of the block's credit. -/
def sched : Rounds.Schedule (GSem nD τ sig) (Fin 7) 𝕄 where
  duties g r := if r = 0 ∧ IsTc g then (which g.2).elim ∅ dutiesOf else ∅
  unitless _ := False
  amount g _ _ := (which g.2).elim 1 amountOf
  payload g _ d := (which g.2).elim iprop(emp) fun k => payload m g.1.1 k d
  amount_pos g _ _ _ := by
    cases which g.2 with
    | none => exact Nat.one_pos
    | some k => exact amountOf_pos k

instance sched_storable (g : GSem nD τ sig) (r : ℕ) (d : Fin 7) : BI.Storable (upEmb : UEmb _ 𝕄) ((sched (F := F) m).payload g r d) := by
  show BI.Storable upEmb ((which g.2).elim iprop(emp) fun k => payload m g.1.1 k d)
  cases which g.2 with
  | none => show BI.Storable upEmb iprop(emp); infer_instance
  | some k => exact payload_storable m g.1.1 k d

section Tables
variable (c : Dev nD)

theorem duties_cell (k : Cell) : (sched (F := F) m).duties (cell c k) 0 = dutiesOf k := by
  show (if (0 : ℕ) = 0 ∧ IsTc (cell c k) then (which (csem k)).elim ∅ dutiesOf else ∅) = _
  rw [if_pos ⟨rfl, rfl⟩, which_csem]; rfl
theorem duties_later (g : GSem nD τ sig) : ∀ r, 1 ≤ r → (sched (F := F) m).duties g r = ∅ :=
  fun r hr => by
    show (if r = 0 ∧ IsTc g then _ else ∅) = _
    exact if_neg fun h => by omega
theorem amount_cell (k : Cell) (d : Fin 7) : (sched (F := F) m).amount (cell c k) 0 d = amountOf k := by
  show (which (csem k)).elim 1 amountOf = _
  rw [which_csem]; rfl
theorem payload_cell (k : Cell) (d : Fin 7) : (sched (F := F) m).payload (cell c k) 0 d = payload m c k d := by
  show (which (csem k)).elim iprop(emp) (fun l => payload m c l d) = _
  rw [which_csem]; rfl

theorem expect_bar : (sched (F := F) m).expect (cell c bar) 0 = 7 := by
  unfold Schedule.expect Schedule.amountOf
  rw [duties_cell, Finset.sum_congr rfl fun d _ => amount_cell m c bar d]
  rfl
theorem expect_some (x : Bool × Fin 7) : (sched (F := F) m).expect (cell c (some x)) 0 = N := by
  unfold Schedule.expect Schedule.amountOf
  rw [duties_cell, show dutiesOf (some x) = {0} from rfl, Finset.sum_singleton, amount_cell]; rfl

/-- All the units of a barrier's round hand over the seven slots the device writes; -/
theorem rest_bar : bigSep ((sched (F := F) m).duties (cell c bar) 0 \ ∅) (fun d => (sched (F := F) m).payload (cell c bar) 0 d)
    = bigSep Finset.univ fun d : Fin 7 => slotAny (peer c d) d := by
  rw [Finset.sdiff_empty, duties_cell]
  exact bigSep_congr fun d _ => payload_cell m c bar d
/-- a send or receive cell's round, its one payload. -/
theorem rest_some (x : Bool × Fin 7) : bigSep ((sched (F := F) m).duties (cell c (some x)) 0 \ ∅) (fun d => (sched (F := F) m).payload (cell c (some x)) 0 d)
    = payload m c (some x) 0 := by
  rw [Finset.sdiff_empty, duties_cell, show dutiesOf (some x) = {0} from rfl, bigSep_singleton, payload_cell]

end Tables

/-! ## What a device owes at launch, and the levels -/

/-- All seven exchanges in program order. -/
abbrev all7 : List (Fin 7) := [0, 1, 2, 3, 4, 5, 6]

/-- The blocks still to be sent: the credit owed to the peers' receive cells. -/
def oweBlk (c : Dev nD) : List (Fin 7) → CellTallies nD τ sig Unit
  | [] => 0
  | s :: l => oweBlk c l + tallyAt (cell (peer c s) (rcv s)) () N
/-- The signals still to be sent, besides all the blocks. -/
def oweSig (c : Dev nD) : List (Fin 7) → CellTallies nD τ sig Unit
  | [] => oweBlk c all7
  | s :: l => oweSig c l + tallyAt (cell (peer c s) bar) () 1
/-- What device `c` owes at launch. -/
def owed0 (c : Dev nD) : CellTallies nD τ sig Unit := oweSig c all7

def L (g : GSem nD τ sig) : Finset Unit := if g.1.2 = .tc then {()} else ∅
/-- Barriers at level 1, receive cells at level 2, all else at level 0. -/
def lv (g : GSem nD τ sig) (_ : Unit) : ℕ :=
  match which g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c bar) () = 1 := by
  show (match which (csem bar) with | some none => 1 | some (some (true, _)) => 2 | _ => 0) = 1
  rw [which_csem]
theorem lv_rcv (c : Dev nD) (s : Fin 7) : lv (cell c (rcv s)) () = 2 := by
  show (match which (csem (rcv s)) with | some none => 1 | some (some (true, _)) => 2 | _ => 0) = 2
  rw [which_csem]

theorem oweBlk_pos {c : Dev nD} {g : GSem nD τ sig} {u : Unit} : ∀ l : List (Fin 7), 0 < oweBlk c l g u → ∃ d s, g = cell d (rcv s)
  | [], h => absurd h (Nat.lt_irrefl 0)
  | s :: l, h => by
    rw [oweBlk, Pi.add_apply, Finsupp.add_apply, tallyAt_apply] at h
    by_cases hg : g = cell (peer c s) (rcv s) ∧ u = ()
    · exact ⟨_, _, hg.1⟩
    · rw [if_neg hg, Nat.add_zero] at h; exact oweBlk_pos l h
theorem oweSig_pos {c : Dev nD} {g : GSem nD τ sig} {u : Unit} : ∀ l : List (Fin 7), 0 < oweSig c l g u →
    (∃ d, g = cell d bar) ∨ ∃ d s, g = cell d (rcv s)
  | [], h => .inr (oweBlk_pos _ h)
  | s :: l, h => by
    rw [oweSig, Pi.add_apply, Finsupp.add_apply, tallyAt_apply] at h
    by_cases hg : g = cell (peer c s) bar ∧ u = ()
    · exact .inl ⟨_, hg.1⟩
    · rw [if_neg hg, Nat.add_zero] at h; exact oweSig_pos l h

omit [FloatOps F] in
/-- A wait at level 0 is allowed whatever of the launch's debt is open. -/
theorem mayWait_low (c : Dev nD) (q : DmaSem sig) (hq : lv ((c : Thread nD τ), .dma q) () = 0) (O : CellTallies nD τ sig Unit)
    (hO : O = owed0 c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweSig_pos _ hg with ⟨d, rfl⟩ | ⟨d, s, rfl⟩ <;> exact Finset.mem_singleton_self _)
      (fun p hp => by rw [Finset.mem_singleton.mp hp]; exact le_of_eq hq)
      (fun g u hg => by
        rcases oweSig_pos _ hg with ⟨d, rfl⟩ | ⟨d, s, rfl⟩
        · rw [show lv (cell d bar) u = 1 from lv_bar d]; decide
        · rw [show lv (cell d (rcv s)) u = 2 from lv_rcv d s]; decide)
  · rw [MayWait_zero]; iintro -; iempintro

omit [FloatOps F] in
/-- At the barrier only the blocks are owed, all at level 2: the wait is allowed. -/
theorem mayWait_bar (c : Dev nD) : (levAts L lv : sProp 𝕄) ⊢ MayWait (c : Thread nD τ) (.reg barS) () (oweBlk c all7) :=
  MayOwe.of_cut (L := L) (lev := lv) 1 (fun p hp => by rw [Finset.mem_singleton.mp hp, L_tc]; exact Finset.mem_singleton_self _)
    (fun g u hg => by obtain ⟨d, s, rfl⟩ := oweBlk_pos _ hg; exact Finset.mem_singleton_self _)
    (fun p hp => by rw [Finset.mem_singleton.mp hp]; exact le_of_eq (lv_bar c))
    (fun g u hg => by
      obtain ⟨d, s, rfl⟩ := oweBlk_pos _ hg
      rw [show lv (cell d (rcv s)) u = 2 from lv_rcv d s]; decide)

end Cert.Moe

end
-- ==== Proof.Steps.lean ====
/- One lemma per step of the body: the signals, the barrier wait, one exchange, a receive, a wait for a send. -/
module

public import proofs.«01_k».proof.Proof.Proto
public import Idealize.ShloMosaic.Lib.ValueLayout

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Readings and writings of the buffers -/

theorem zero2 : (![0, 0] : Fin 2 → Nat) = fun _ => 0 := funext fun a => by fin_cases a <;> rfl

/-- A slot's elements are the same squeezed or not. -/
theorem slot_set (s : Fin 7) : (cM.view.slice (slotR s)).set = (slotM s).view.set :=
  (View.set_reshape (cM.view.slice (slotR s)) _).symm

/-- A slot's reading, squeezed, is its reading with the unit axis put back. -/
theorem read_slot (c : Dev nD) (s : Fin 7) (f : cc0_scratch1.ty.Contents (Elt F))
    (h : (slotM s).view.read (Elt F) f = blk m (src c s) c) :
    cM.view.readAt (Elt F) (slotR s).toLoadRect f = got m c s := by
  refine funext fun (i : S1x128x512.Idx) => ?_
  have hn : S128x512.numel = S1x128x512.numel := by decide
  have e : i = Shape.reshapeEquiv (s := S1x128x512) (s' := S128x512) hn (ix2 (n0 := 128) (n1 := 512) (i 1) (i 2)) := by
    refine (eq_ix3 i).trans (Eq.trans ?_ (reshapeEquiv_ix2_1ab (a := 128) (b := 512) hn _ _).symm)
    refine congrArg (fun z : Fin 1 => ix3 (n0 := 1) (n1 := 128) (n2 := 512) z (i 1) (i 2)) ?_
    exact Fin.ext (by have := (i 0).isLt; change (i 0 : ℕ) < 1 at this; show (i 0 : ℕ) = 0; omega)
  show _ = blk m (src c s) c (ix2 (n0 := 128) (n1 := 512) (i 1) (i 2))
  rw [← h]
  conv_lhs => rw [e]
  rfl

/-- The four slabs stored one after the other make the buffer of gated rows, whatever it held before. -/
theorem write_slabs (c : Dev nD) (f : cc0_scratch2.ty.Contents (Elt F)) :
    (xwM.access (slabR 3)).write (Elt F) ((xwM.access (slabR 2)).write (Elt F) ((xwM.access (slabR 1)).write (Elt F)
      ((xwM.access (slabR 0)).write (Elt F) f (xwSlab m c 0) Finset.univ) (xwSlab m c 1) Finset.univ) (xwSlab m c 2) Finset.univ)
        (xwSlab m c 3) Finset.univ = xwBuf m c := by
  have hit (j : Fin 4) (g : cc0_scratch2.ty.Contents (Elt F)) (i : S4x1024x256.Idx) (hj : i 0 = j) :
      (xwM.access (slabR j)).write (Elt F) g (xwSlab m c j) Finset.univ i = xwBuf m c i := by
    have e : i = (xwM.access (slabR j)).emb (ix3 (n0 := 1) 0 (i 1) (i 2)) := by
      funext a
      refine Fin.ext ?_
      show (i a : ℕ) = (![j.val, 0, 0] : Fin 3 → ℕ) a + 1 * (ix3 (n0 := 1) (n1 := 1024) (n2 := 256) 0 (i 1) (i 2) a : ℕ)
      fin_cases a
      · show (i 0 : ℕ) = j.val + 1 * 0
        rw [hj]; omega
      · show (i 1 : ℕ) = 0 + 1 * (i 1 : ℕ); omega
      · show (i 2 : ℕ) = 0 + 1 * (i 2 : ℕ); omega
    conv_lhs => rw [e]
    refine (View.write_emb_of_mem (v := xwM.access (slabR j)) (Val := Elt F) g (xwSlab m c j) (Finset.mem_univ _)).trans ?_
    show xwSlab m c j (ix3 0 (i 1) (i 2)) = xwSlab m c (i 0) (ix3 0 (i 1) (i 2))
    rw [hj]
  have miss (j : Fin 4) (g : cc0_scratch2.ty.Contents (Elt F)) (i : S4x1024x256.Idx) (hj : i 0 ≠ j) :
      (xwM.access (slabR j)).write (Elt F) g (xwSlab m c j) Finset.univ i = g i := by
    refine View.write_of_not_mem (v := xwM.access (slabR j)) (Val := Elt F) g (xwSlab m c j) Finset.univ fun h => hj ?_
    rw [View.setOn_univ] at h
    obtain ⟨x, e⟩ := View.exists_of_mem_set_slice (v := xwM.view) h
    have e0 : (j.val : ℕ) + 1 * (x 0 : ℕ) = (i 0 : ℕ) := congrArg (fun y : S4x1024x256.Idx => (y 0 : ℕ)) e
    have := (x 0).isLt; change (x 0 : ℕ) < 1 at this
    exact Fin.ext (by omega)
  refine funext fun (i : S4x1024x256.Idx) => ?_
  by_cases h3 : i 0 = (3 : Fin 4); · exact hit 3 _ i h3
  rw [miss 3 _ i h3]
  by_cases h2 : i 0 = (2 : Fin 4); · exact hit 2 _ i h2
  rw [miss 2 _ i h2]
  by_cases h1 : i 0 = (1 : Fin 4); · exact hit 1 _ i h1
  rw [miss 1 _ i h1]
  refine hit 0 _ i ?_
  have := (i 0).isLt; change (i 0 : ℕ) < 4 at this
  exact Fin.ext (by
    have a3 : (i 0 : ℕ) ≠ 3 := fun h => h3 (Fin.ext h)
    have a2 : (i 0 : ℕ) ≠ 2 := fun h => h2 (Fin.ext h)
    have a1 : (i 0 : ℕ) ≠ 1 := fun h => h1 (Fin.ext h)
    show (i 0 : ℕ) = 0
    omega)

/-! ## What every step may use, and the resources of each exchange -/

variable (K : Dev nD × Cell → ℕ)

/-- Every cell's invariant, and that every cell is at its round. -/
def records : sProp 𝕄 :=
  iprop((bigSep Finset.univ fun p : Dev nD × Cell => cellInv ER (sched m) (K p) (cell p.1 p.2))
    ∗ bigSep Finset.univ fun p : Dev nD × Cell => reached ER (cell p.1 p.2) 0)

instance records_persistent : BI.Persistent (records m K) := by unfold records; infer_instance

theorem inv_at (c : Dev nD) (k : Cell) : records m K ⊢ cellInv ER (sched m) (K (c, k)) (cell c k) := by
  have h : (bigSep Finset.univ fun p : Dev nD × Cell => (cellInv ER (sched m) (K p) (cell p.1 p.2) : sProp 𝕄)) ⊢ cellInv ER (sched m) (K (c, k)) (cell c k) :=
    bigSep_elim (Finset.mem_univ (c, k))
  unfold records
  iintro ⟨H, -⟩
  iapply h; iexact H
theorem reached_at (c : Dev nD) (k : Cell) : records m K ⊢ reached ER (cell c k) 0 := by
  have h : (bigSep Finset.univ fun p : Dev nD × Cell => (reached ER (cell p.1 p.2) 0 : sProp 𝕄)) ⊢ reached ER (cell c k) 0 :=
    bigSep_elim (Finset.mem_univ (c, k))
  unfold records
  iintro ⟨-, H⟩
  iapply h; iexact H

/-- What a device owes, whatever it has waited for. -/
def debt (c : Dev nD) (O : CellTallies nD τ sig Unit) : sProp 𝕄 := iprop(∃ W, owes (c : Thread nD τ) O W)

/-- For the signal of exchange `s`: its duty's token and the slot it hands over. -/
def sigRes (c : Dev nD) (s : Fin 7) : sProp 𝕄 := iprop(dutyTok ER (cell (peer c s) bar) 0 (opp s) ∗ slotAny c (opp s))
/-- For the block of exchange `s`: the two duties' tokens, the send cell's position, the rows it is computed into; -/
def blkRes (c : Dev nD) (s : Fin 7) : sProp 𝕄 :=
  iprop(dutyTok ER (cell c (snd s)) 0 0 ∗ dutyTok ER (cell (peer c s) (rcv s)) 0 0 ∗ atPos ER (cell c (snd s)) 0 ∅ 0 ∗ rowsAny c (peer c s))
/-- for the wait till it is sent, -/
def sndRes (c : Dev nD) (s : Fin 7) : sProp 𝕄 := iprop(cred (tallyAt (cell c (snd s)) () N) ∗ atPos ER (cell c (snd s)) 0 ∅ 0)
/-- and after it. -/
def sndDone (c : Dev nD) (s : Fin 7) : sProp 𝕄 := iprop(rowsAny c (peer c s) ∗ semVal (cell c (snd s)) 0)
/-- For the receive of exchange `s`, -/
def rcvRes (c : Dev nD) (s : Fin 7) : sProp 𝕄 := iprop(cred (tallyAt (cell c (rcv s)) () N) ∗ atPos ER (cell c (rcv s)) 0 ∅ 0)
/-- and after it. -/
def rcvDone (c : Dev nD) (s : Fin 7) : sProp 𝕄 := iprop(slotAny c s ∗ semVal (cell c (rcv s)) 0)
/-- The gated rows, and the experts' weights. -/
def heldXw (c : Dev nD) : sProp 𝕄 := iprop(xwM.view.loc (c : Thread nD τ) ↦{fullShare} xwBuf m c)
def heldE (c : Dev nD) : sProp 𝕄 := iprop(eM.view.loc (c : Thread nD τ) ↦{fullShare} X3 m c)

abbrev 𝒱₀ : Variants := Variants.none

/-- Device `c` runs `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- A signal hands the device's own slot to the peer that will write it. -/
theorem wp_sig (c : Dev nD) (s : Fin 7) (l : List (Fin 7)) (n : Dev nD) (hn : n = peer c s) (a : ℤ) (ha : a = ((1 : ℕ) : ℤ))
    {α : Type} {Q : α → sProp 𝕄} {k : PUnit → Prog (TpuEff nD τ sig (Elt F) Λ₀ .tc) α} :
    iprop(records m K ∗ sigRes c s ∗ debt c (oweSig c (s :: l)))
      ⊢ iprop((debt c (oweSig c l) -∗ WP c (k ⟨⟩) Q) -∗ WP c (.op (.semSignal (Dev.tc n : Thread nD τ) barS a) k) Q) := by
  subst hn ha
  unfold debt sigRes
  iintro ⟨#HR, ⟨Ht, Hs⟩, ⟨%W, HO⟩⟩ Hk
  iapply (Rounds.wp_signal 𝒱₀ ER (sched m) (c : Thread nD τ) none (dst := (peer c s : Thread nD τ)) (κ := K (peer c s, bar))
      (d := opp s) (by rw [show ((peer c s : Thread nD τ), SemLoc.reg barS) = cell (peer c s) bar from rfl, duties_cell]; exact Finset.mem_univ _)
      (amount_cell m (peer c s) bar (opp s)) () (oweSig c l) rfl) $$ [Ht Hs HO]
  · isplitr; · iapply (inv_at m K (peer c s) bar); iexact HR
    isplitl [HO]; · iexact HO
    isplitl [Ht]; · iexact Ht
    isplitl [Hs]
    · iapply (Entails.of_eq (show slotAny c (opp s) = (sched m).payload (cell (peer c s) bar) 0 (opp s) from by
        rw [payload_cell]; show _ = slotAny (peer (peer c s) (opp s)) (opp s); rw [peer_opp]))
      iexact Hs
    · iapply (reached_at m K (peer c s) bar); iexact HR
  iintro HO
  iapply Hk
  iexists W; iexact HO

/-- The barrier wait brings the seven slots that the device writes, and closes the barrier's cell. -/
theorem wp_barwait (c : Dev nD) (a : ℤ) (ha : a = ((7 : ℕ) : ℤ))
    {α : Type} {Q : α → sProp 𝕄} {k : PUnit → Prog (TpuEff nD τ sig (Elt F) Λ₀ .tc) α} :
    iprop(records m K ∗ levAts L lv ∗ cred (tallyAt (cell c bar) () 7) ∗ atPos ER (cell c bar) 0 ∅ 0 ∗ debt c (oweSig c []))
      ⊢ iprop(((debt c (oweBlk c all7) ∗ semVal (cell c bar) 0 ∗ bigSep Finset.univ fun s : Fin 7 => slotAny (peer c s) s) -∗ WP c (k ⟨⟩) Q)
        -∗ WP c (.op (.semWait barS a) k) Q) := by
  subst ha
  unfold debt
  iintro ⟨#HR, #Hlev, Hc, Hat, ⟨%W, HO⟩⟩ Hk
  iapply (Rounds.wp_wait_rest_token 𝒱₀ ER (sched m) (c : Thread nD τ) none (κ := K (c, bar))
      (wpE_semWait_eq 𝒱₀ (c : Thread nD τ) none Set.univ) (Set.mem_univ _) () (O := oweBlk c all7) (W := W) (R := 0) (m := 0) (T := ∅)
      (by rw [show ((c : Thread nD τ), SemLoc.reg barS) = cell c bar from rfl, expect_bar])) $$ [Hc HO Hat]
  · isplitr; · iapply (inv_at m K c bar); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sched m) (Set.mem_univ (K (c, bar))) (fun h => h) (R := 0 + 1) (duties_later m (cell c bar))) $$ [Hat] with Hz
  · isplitr; · iapply (inv_at m K c bar); iexact HR
    iexact Hat
  iapply Hk
  isplitl [HO]; · iexists _; iexact HO
  isplitl [Hz]; · iexact Hz
  iexact Hp

/-! ## Loads -/

/-- A load of rows of the gated input. -/
theorem wp_ld_xw (c : Dev nD) (j : Fin 4) (d : Dev nD) {o : Fin 3 → ℕ} (ho : o = ![j.val, 128 * d.val, 0])
    {hi : ∀ a, o a + S1x128x256.size a ≤ S4x1024x256.size a}
    {hl : xwM.view.LoadsAt (Rect.unit (s := S4x1024x256) o S1x128x256.size hi).toLoadRect}
    {α : Type} {Q : α → sProp 𝕄} {k : (S1x128x256.Idx → Elt F .f32) → Prog (TpuEff nD τ sig (Elt F) Λ₀ .tc) α} :
    heldXw m c ⊢ iprop((heldXw m c -∗ WP c (k (xwrow m c j d)) Q)
      -∗ WP c (.op (.load xwM (Rect.unit (s := S4x1024x256) o S1x128x256.size hi).toLoadRect hl) k) Q) := by
  subst ho
  exact wp_load 𝒱₀ (c : Thread nD τ) none Set.univ (m := xwM) (Finset.subset_univ _)

/-- A load of one local expert's weights. -/
theorem wp_ld_e (c : Dev nD) (j : Fin 4) {o : Fin 3 → ℕ} (ho : o = ![j.val, 0, 0])
    {hi : ∀ a, o a + S1x256x512.size a ≤ S4x256x512.size a}
    {hl : eM.view.LoadsAt (Rect.unit (s := S4x256x512) o S1x256x512.size hi).toLoadRect}
    {α : Type} {Q : α → sProp 𝕄} {k : (S1x256x512.Idx → Elt F .f32) → Prog (TpuEff nD τ sig (Elt F) Λ₀ .tc) α} :
    heldE m c ⊢ iprop((heldE m c -∗ WP c (k (eslab m c j)) Q)
      -∗ WP c (.op (.load eM (Rect.unit (s := S4x256x512) o S1x256x512.size hi).toLoadRect hl) k) Q) := by
  subst ho
  exact wp_load 𝒱₀ (c : Thread nD τ) none Set.univ (m := eM) (Finset.subset_univ _)

/-- A load of rows of the partial-sum buffer: what is read does not matter, so the rest must not use it. -/
theorem wp_ld_rows (c d : Dev nD) {o : Fin 2 → ℕ} (ho : o = ![128 * d.val, 0])
    {hi : ∀ a, o a + S128x512.size a ≤ S1024x512.size a}
    {hl : pM.view.LoadsAt (Rect.unit (s := S1024x512) o S128x512.size hi).toLoadRect}
    {α : Type} {Q : α → sProp 𝕄} {k : (S128x512.Idx → Elt F .f32) → Prog (TpuEff nD τ sig (Elt F) Λ₀ .tc) α} :
    rowsAny c d ⊢ iprop((∀ v, rowsAny c d -∗ WP c (k v) Q)
      -∗ WP c (.op (.load pM (Rect.unit (s := S1024x512) o S128x512.size hi).toLoadRect hl) k) Q) := by
  subst ho
  unfold rowsAny
  iintro ⟨%f, H⟩ Hk
  iapply (wp_load_rect 𝒱₀ (c : Thread nD τ) none Set.univ (m := pM) (r := rowsR d) (Finset.Subset.refl _)) $$ H
  iintro H
  iapply Hk
  iexists f; iexact H

/-! ## One exchange -/

/-- The block written to the rows and read from them again is the block, also in the peer's slot. -/
theorem read_sent (c : Dev nD) (s : Fin 7) (f : cc0_scratch0.ty.Contents (Elt F)) (g : cc0_scratch1.ty.Contents (Elt F)) :
    (slotM s).view.read (Elt F) ((slotM s).view.write (Elt F) g ((rowsM (peer c s)).view.read (Elt F)
      ((pM.access (rowsR (peer c s))).write (Elt F) f (blk m c (peer c s)) Finset.univ)) Finset.univ) = blk m (src (peer c s) s) (peer c s) := by
  rw [src_peer, View.read_write_univ]
  exact View.read_write_univ (v := pM.access (rowsR (peer c s))) (Val := Elt F) f _

theorem slotGot_of_sent (c : Dev nD) (s : Fin 7) (f : cc0_scratch0.ty.Contents (Elt F)) (g : cc0_scratch1.ty.Contents (Elt F)) :
    ((slotM s).view.loc (peer c s : Thread nD τ) ↦[(slotM s).view.set]{fullShare}
      ((slotM s).view.write (Elt F) g ((rowsM (peer c s)).view.read (Elt F)
        ((pM.access (rowsR (peer c s))).write (Elt F) f (blk m c (peer c s)) Finset.univ)) Finset.univ) : sProp 𝕄) ⊢ slotGot m (peer c s) s := by
  have h := read_sent m c s f g
  generalize (slotM s).view.write (Elt F) g _ Finset.univ = f' at h ⊢
  unfold slotGot
  iintro H; iexists f'
  isplitr; · (ipureintro; exact h)
  iexact H

/-- The block stored into its rows and sent to the peer's slot. -/
theorem wp_put (c : Dev nD) (s : Fin 7) (l : List (Fin 7)) {o o' : Fin 2 → ℕ}
    (ho : o = ![128 * (peer c s).val, 0]) (ho' : o' = ![128 * (peer c s).val, 0])
    {hi : ∀ a, o a + S128x512.size a ≤ S1024x512.size a} {hi' : ∀ a, o' a + S128x512.size a ≤ S1024x512.size a}
    (n : Dev nD) (hn : n = peer c s)
    {dst : Memref sig .tc .vmem S128x512 .f32} (hdst : dst = slotM s) {q q' : DmaSem sig} (hq : q = sendS s) (hq' : q' = recvS s)
    {w : FVec F S128x512 .f32} (hw : w = blk m c (peer c s))
    {hst hm hsl hsc hwe hwe' hsem}
    {α : Type} {Q : α → sProp 𝕄} {k : PUnit → Prog (TpuEff nD τ sig (Elt F) Λ₀ .tc) α} :
    iprop(records m K ∗ blkRes c s ∗ slotAny (peer c s) s ∗ debt c (oweBlk c (s :: l)))
      ⊢ iprop(((sndRes c s ∗ debt c (oweBlk c l)) -∗ WP c (k ⟨⟩) Q)
        -∗ WP c (.op (.store pM (Rect.unit (s := S1024x512) o S128x512.size hi) w Finset.univ hst hm) fun _ =>
            .op (.enqueueDma (pM.slice (Rect.unit (s := S1024x512) o' S128x512.size hi') hsl)
              (.remote (Dev.tc n : Thread nD τ) dst (.dma q) hsc) (.dma q') hwe hwe' hsem) k) Q) := by
  subst ho ho' hn hdst hq hq' hw
  unfold blkRes slotAny debt rowsAny sndRes
  iintro ⟨#HR, ⟨Ht, Ht', Hat, ⟨%f, Hrow⟩⟩, ⟨%g, Hslot⟩, ⟨%W, HO⟩⟩ Hk
  iapply (wp_store 𝒱₀ (c : Thread nD τ) none Set.univ (m := pM) (r := rowsR (peer c s)) (Mk := Finset.univ)
    (by rw [View.setOn_univ])) $$ Hrow
  iintro Hrow
  iapply (Rounds.wp_send_pointsTo 𝒱₀ ER (sched m) (c : Thread nD τ) none (κ₁ := K (c, snd s)) (κ₂ := K (peer c s, rcv s))
    (r₁ := 0) (r₂ := 0) (d₁ := 0) (d₂ := 0) (fs := (pM.access (rowsR (peer c s))).write (Elt F) f (blk m c (peer c s)) Finset.univ) (fd := g)
    (by rw [show ((c : Thread nD τ), SemLoc.dma (sendS s)) = cell c (snd s) from rfl, duties_cell]; exact Finset.mem_singleton_self _)
    (by rw [show ((peer c s : Thread nD τ), SemLoc.dma (recvS s)) = cell (peer c s) (rcv s) from rfl, duties_cell]; exact Finset.mem_singleton_self _)
    () () N rfl (amount_cell m c (snd s) 0) (amount_cell m (peer c s) (rcv s) 0) (oweBlk c l) rfl (W := W)
    (by
      rw [show ((c : Thread nD τ), SemLoc.dma (sendS s)) = cell c (snd s) from rfl, payload_cell]
      show _ ⊢ rowsAny c (peer c s)
      unfold rowsAny
      iintro H; iexists _; iexact H)
    (by
      rw [show ((peer c s : Thread nD τ), SemLoc.dma (recvS s)) = cell (peer c s) (rcv s) from rfl, payload_cell]
      show _ ⊢ slotGot m (peer c s) s
      exact slotGot_of_sent m c s f g)) $$ [Ht Ht' Hrow Hslot HO]
  · isplitr; · iapply (inv_at m K c (snd s)); iexact HR
    isplitr; · iapply (inv_at m K (peer c s) (rcv s)); iexact HR
    isplitl [Hrow]; · iexact Hrow
    isplitl [Hslot]; · iexact Hslot
    isplitl [HO]; · iexact HO
    isplitl [Ht]; · iexact Ht
    isplitr; · iapply (reached_at m K c (snd s)); iexact HR
    isplitl [Ht']; · iexact Ht'
    iapply (reached_at m K (peer c s) (rcv s)); iexact HR
  iintro ⟨Hc, HO⟩
  iapply Hk
  isplitl [Hc Hat]
  · isplitl [Hc] <;> iassumption
  iexists W; iexact HO

/-- One exchange whole: the block computed from the peer's rows of the gated input, stored and sent. -/
theorem wp_phase (c : Dev nD) (s : Fin 7) (l : List (Fin 7))
    {a0 b0 : Fin 3 → ℕ} (ha0 : a0 = ![0, 128 * (peer c s).val, 0]) (hb0 : b0 = ![0, 0, 0])
    {ia0 : ∀ x, a0 x + S1x128x256.size x ≤ S4x1024x256.size x} {ib0 : ∀ x, b0 x + S1x256x512.size x ≤ S4x256x512.size x}
    {la0 : xwM.view.LoadsAt (Rect.unit (s := S4x1024x256) a0 S1x128x256.size ia0).toLoadRect}
    {lb0 : eM.view.LoadsAt (Rect.unit (s := S4x256x512) b0 S1x256x512.size ib0).toLoadRect}
    {a1 b1 : Fin 3 → ℕ} (ha1 : a1 = ![1, 128 * (peer c s).val, 0]) (hb1 : b1 = ![1, 0, 0])
    {ia1 : ∀ x, a1 x + S1x128x256.size x ≤ S4x1024x256.size x} {ib1 : ∀ x, b1 x + S1x256x512.size x ≤ S4x256x512.size x}
    {la1 : xwM.view.LoadsAt (Rect.unit (s := S4x1024x256) a1 S1x128x256.size ia1).toLoadRect}
    {lb1 : eM.view.LoadsAt (Rect.unit (s := S4x256x512) b1 S1x256x512.size ib1).toLoadRect}
    {a2 b2 : Fin 3 → ℕ} (ha2 : a2 = ![2, 128 * (peer c s).val, 0]) (hb2 : b2 = ![2, 0, 0])
    {ia2 : ∀ x, a2 x + S1x128x256.size x ≤ S4x1024x256.size x} {ib2 : ∀ x, b2 x + S1x256x512.size x ≤ S4x256x512.size x}
    {la2 : xwM.view.LoadsAt (Rect.unit (s := S4x1024x256) a2 S1x128x256.size ia2).toLoadRect}
    {lb2 : eM.view.LoadsAt (Rect.unit (s := S4x256x512) b2 S1x256x512.size ib2).toLoadRect}
    {a3 b3 : Fin 3 → ℕ} (ha3 : a3 = ![3, 128 * (peer c s).val, 0]) (hb3 : b3 = ![3, 0, 0])
    {ia3 : ∀ x, a3 x + S1x128x256.size x ≤ S4x1024x256.size x} {ib3 : ∀ x, b3 x + S1x256x512.size x ≤ S4x256x512.size x}
    {la3 : xwM.view.LoadsAt (Rect.unit (s := S4x1024x256) a3 S1x128x256.size ia3).toLoadRect}
    {lb3 : eM.view.LoadsAt (Rect.unit (s := S4x256x512) b3 S1x256x512.size ib3).toLoadRect}
    {o o' : Fin 2 → ℕ} (ho : o = ![128 * (peer c s).val, 0]) (ho' : o' = ![128 * (peer c s).val, 0])
    {hi : ∀ a, o a + S128x512.size a ≤ S1024x512.size a} {hi' : ∀ a, o' a + S128x512.size a ≤ S1024x512.size a}
    {hlo : pM.view.LoadsAt (Rect.unit (s := S1024x512) o S128x512.size hi).toLoadRect}
    (n : Dev nD) (hn : n = peer c s)
    {dst : Memref sig .tc .vmem S128x512 .f32} (hdst : dst = slotM s) {q q' : DmaSem sig} (hq : q = sendS s) (hq' : q' = recvS s)
    {w : (S1x128x256.Idx → Elt F .f32) → (S1x256x512.Idx → Elt F .f32) → (S1x128x256.Idx → Elt F .f32) → (S1x256x512.Idx → Elt F .f32) →
      (S1x128x256.Idx → Elt F .f32) → (S1x256x512.Idx → Elt F .f32) → (S1x128x256.Idx → Elt F .f32) → (S1x256x512.Idx → Elt F .f32) → FVec F S128x512 .f32}
    (hw : w = k0_pay14 (Scalar.ofBits .f32 0x00000000#32))
    {hst hm hsl hsc hwe hwe' hsem}
    {α : Type} {Q : α → sProp 𝕄} {k : PUnit → Prog (TpuEff nD τ sig (Elt F) Λ₀ .tc) α} :
    iprop(records m K ∗ heldXw m c ∗ heldE m c ∗ blkRes c s ∗ slotAny (peer c s) s ∗ debt c (oweBlk c (s :: l)))
      ⊢ iprop(((heldXw m c ∗ heldE m c ∗ sndRes c s ∗ debt c (oweBlk c l)) -∗ WP c (k ⟨⟩) Q)
        -∗ WP c
          (.op (.load xwM (Rect.unit (s := S4x1024x256) a0 S1x128x256.size ia0).toLoadRect la0) fun v1 =>
            .op (.load eM (Rect.unit (s := S4x256x512) b0 S1x256x512.size ib0).toLoadRect lb0) fun v2 =>
            .op (.load xwM (Rect.unit (s := S4x1024x256) a1 S1x128x256.size ia1).toLoadRect la1) fun v3 =>
            .op (.load eM (Rect.unit (s := S4x256x512) b1 S1x256x512.size ib1).toLoadRect lb1) fun v4 =>
            .op (.load xwM (Rect.unit (s := S4x1024x256) a2 S1x128x256.size ia2).toLoadRect la2) fun v5 =>
            .op (.load eM (Rect.unit (s := S4x256x512) b2 S1x256x512.size ib2).toLoadRect lb2) fun v6 =>
            .op (.load xwM (Rect.unit (s := S4x1024x256) a3 S1x128x256.size ia3).toLoadRect la3) fun v7 =>
            .op (.load eM (Rect.unit (s := S4x256x512) b3 S1x256x512.size ib3).toLoadRect lb3) fun v8 =>
            .op (.load pM (Rect.unit (s := S1024x512) o S128x512.size hi).toLoadRect hlo) fun _ =>
            .op (.store pM (Rect.unit (s := S1024x512) o S128x512.size hi) (w v1 v2 v3 v4 v5 v6 v7 v8) Finset.univ hst hm) fun _ =>
            .op (.enqueueDma (pM.slice (Rect.unit (s := S1024x512) o' S128x512.size hi') hsl)
              (.remote (Dev.tc n : Thread nD τ) dst (.dma q) hsc) (.dma q') hwe hwe' hsem) k) Q) := by
  unfold blkRes
  iintro ⟨#HR, Hx, He, ⟨Ht, Ht', Hat, Hrow⟩, Hslot, HO⟩ Hk
  iapply (wp_ld_xw m c 0 (peer c s) ha0) $$ Hx; iintro Hx
  iapply (wp_ld_e m c 0 hb0) $$ He; iintro He
  iapply (wp_ld_xw m c 1 (peer c s) ha1) $$ Hx; iintro Hx
  iapply (wp_ld_e m c 1 hb1) $$ He; iintro He
  iapply (wp_ld_xw m c 2 (peer c s) ha2) $$ Hx; iintro Hx
  iapply (wp_ld_e m c 2 hb2) $$ He; iintro He
  iapply (wp_ld_xw m c 3 (peer c s) ha3) $$ Hx; iintro Hx
  iapply (wp_ld_e m c 3 hb3) $$ He; iintro He
  iapply (wp_ld_rows c (peer c s) ho) $$ Hrow
  iintro %_ Hrow
  iapply (wp_put m K c s l ho ho' n hn hdst hq hq' (congrFun (congrFun (congrFun (congrFun (congrFun (congrFun (congrFun (congrFun hw _) _) _) _) _) _) _) _)) $$ [Ht Ht' Hat Hrow Hslot HO]
  · unfold blkRes
    isplitr; · iexact HR
    isplitl [Ht Ht' Hat Hrow]
    · isplitl [Ht]; · iexact Ht
      isplitl [Ht']; · iexact Ht'
      isplitl [Hat] <;> iassumption
    isplitl [Hslot] <;> iassumption
  iintro ⟨Hs, HO⟩
  iapply Hk
  isplitl [Hx]; · iexact Hx
  isplitl [He]; · iexact He
  isplitl [Hs] <;> iassumption

/-! ## Receiving -/

/-- The wait for the block of exchange `s`, and the load of it. -/
theorem wp_rcv (c : Dev nD) (s : Fin 7) {q : DmaSem sig} (hq : q = recvS s) {dst : Memref sig .tc .vmem S128x512 .f32} (hdst : dst = slotM s)
    {sp' : Space} {s' : Shape} {e' : EltTy} {src' : Memref sig .tc sp' s' e'} {hwe hwe'}
    {o : Fin 3 → ℕ} (ho : o = ![s.val, 0, 0]) {hi : ∀ a, o a + S1x128x512.size a ≤ S7x128x512.size a}
    {hl : cM.view.LoadsAt (Rect.unit (s := S7x128x512) o S1x128x512.size hi).toLoadRect}
    {α : Type} {Q : α → sProp 𝕄} {k : (S1x128x512.Idx → Elt F .f32) → Prog (TpuEff nD τ sig (Elt F) Λ₀ .tc) α} :
    iprop(records m K ∗ rcvRes c s ∗ debt c 0)
      ⊢ iprop(((rcvDone c s ∗ debt c 0) -∗ WP c (k (got m c s)) Q)
        -∗ WP c (.op (.waitDma2 q src' dst hwe hwe') fun _ =>
            .op (.load cM (Rect.unit (s := S7x128x512) o S1x128x512.size hi).toLoadRect hl) k) Q) := by
  subst hq hdst ho
  unfold debt rcvRes rcvDone slotAny
  iintro ⟨#HR, ⟨Hc, Hat⟩, ⟨%W, HO⟩⟩ Hk
  iapply (Rounds.wp_wait_rest_token 𝒱₀ ER (sched m) (c : Thread nD τ) none (κ := K (c, rcv s))
      (wpE_waitDma2_eq 𝒱₀ (c : Thread nD τ) none Set.univ) (Set.mem_univ _) () (O := 0) (W := W) (R := 0) (m := 0) (T := ∅)
      (by rw [Nat.zero_add, show ((c : Thread nD τ), SemLoc.dma (recvS s)) = cell c (rcv s) from rfl, expect_some])) $$ [Hc HO Hat]
  · isplitr; · iapply (inv_at m K c (rcv s)); iexact HR
    isplitl [Hc]; · iexact Hc
    isplitl [HO]; · iexact HO
    isplitr; · rw [MayWait_zero]; iempintro
    iexact Hat
  iintro ⟨HO, Hat, -, Hpay⟩
  ihave Hp := (Entails.of_eq ((rest_some m c (true, s)).trans (show payload m c (rcv s) 0 = slotGot m c s from rfl))) $$ Hpay
  imod (Rounds.cell_close ER (sched m) (Set.mem_univ (K (c, rcv s))) (fun h => h) (R := 0 + 1) (duties_later m (cell c (rcv s)))) $$ [Hat] with Hz
  · isplitr; · iapply (inv_at m K c (rcv s)); iexact HR
    iexact Hat
  unfold slotGot
  icases Hp with ⟨%f, %hf, Hp⟩
  iapply (wp_load 𝒱₀ (c : Thread nD τ) none Set.univ (m := cM) (by have h := (slot_set s).le; rwa [View.set_slice] at h)) $$ Hp
  iintro Hp
  rw [read_slot m c s f hf]
  iapply Hk
  isplitl [Hp Hz]
  · isplitl [Hp]; · iexists f; iexact Hp
    iexact Hz
  iexists _; iexact HO

/-- The wait till the block of exchange `s` is sent: the rows are the device's again. -/
theorem wp_sent (c : Dev nD) (s : Fin 7) {q : DmaSem sig} (hq : q = sendS s) {dst : Memref sig .tc .vmem S128x512 .f32}
    {sp' : Space} {s' : Shape} {e' : EltTy} {src' : Memref sig .tc sp' s' e'} {hwe hwe'}
    {α : Type} {Q : α → sProp 𝕄} {k : PUnit → Prog (TpuEff nD τ sig (Elt F) Λ₀ .tc) α} :
    iprop(records m K ∗ sndRes c s ∗ debt c 0)
      ⊢ iprop(((sndDone c s ∗ debt c 0) -∗ WP c (k ⟨⟩) Q)
        -∗ WP c (.op (.waitDma2 q src' dst hwe hwe') k) Q) := by
  subst hq
  have hdst : dst.view.dmaCredit = N := rfl
  unfold debt sndRes sndDone
  iintro ⟨#HR, ⟨Hc, Hat⟩, ⟨%W, HO⟩⟩ Hk
  rw [← hdst]
  iapply (Rounds.wp_wait_rest_token 𝒱₀ ER (sched m) (c : Thread nD τ) none (κ := K (c, snd s))
      (wpE_waitDma2_eq 𝒱₀ (c : Thread nD τ) none Set.univ) (Set.mem_univ _) () (O := 0) (W := W) (R := 0) (m := 0) (T := ∅)
      (by rw [Nat.zero_add, show ((c : Thread nD τ), SemLoc.dma (sendS s)) = cell c (snd s) from rfl, expect_some, hdst])) $$ [Hc HO Hat]
  · isplitr; · iapply (inv_at m K c (snd s)); iexact HR
    isplitl [Hc]; · iexact Hc
    isplitl [HO]; · iexact HO
    isplitr; · rw [MayWait_zero]; iempintro
    iexact Hat
  iintro ⟨HO, Hat, -, Hpay⟩
  ihave Hp := (Entails.of_eq ((rest_some m c (false, s)).trans (show payload m c (snd s) 0 = rowsAny c (peer c s) from rfl))) $$ Hpay
  imod (Rounds.cell_close ER (sched m) (Set.mem_univ (K (c, snd s))) (fun h => h) (R := 0 + 1) (duties_later m (cell c (snd s)))) $$ [Hat] with Hz
  · isplitr; · iapply (inv_at m K c (snd s)); iexact HR
    iexact Hat
  iapply Hk
  isplitl [Hp Hz]
  · isplitl [Hp] <;> iassumption
  iexists _; iexact HO

/-! ## Filling the buffer of gated rows -/

/-- One slab loaded (the value is not used) and stored. -/
theorem wp_slab (c : Dev nD) (j : Fin 4) (f : cc0_scratch2.ty.Contents (Elt F)) {o : Fin 3 → ℕ} (ho : o = ![j.val, 0, 0])
    {hi : ∀ a, o a + S1x1024x256.size a ≤ S4x1024x256.size a}
    {hl : xwM.view.LoadsAt (Rect.unit (s := S4x1024x256) o S1x1024x256.size hi).toLoadRect}
    {w : FVec F S1x1024x256 .f32} (hw : w = xwSlab m c j) {hst hm}
    {α : Type} {Q : α → sProp 𝕄} {k : PUnit → Prog (TpuEff nD τ sig (Elt F) Λ₀ .tc) α} :
    (xwM.view.loc (c : Thread nD τ) ↦{fullShare} f : sProp 𝕄)
      ⊢ iprop(((xwM.view.loc (c : Thread nD τ) ↦{fullShare} (xwM.access (slabR j)).write (Elt F) f (xwSlab m c j) Finset.univ) -∗ WP c (k ⟨⟩) Q)
        -∗ WP c (.op (.load xwM (Rect.unit (s := S4x1024x256) o S1x1024x256.size hi).toLoadRect hl) fun _ =>
            .op (.store xwM (Rect.unit (s := S4x1024x256) o S1x1024x256.size hi) w Finset.univ hst hm) k) Q) := by
  subst ho hw
  iintro H Hk
  iapply (wp_load 𝒱₀ (c : Thread nD τ) none Set.univ (m := xwM) (Finset.subset_univ _)) $$ H; iintro H
  iapply (wp_store 𝒱₀ (c : Thread nD τ) none Set.univ (m := xwM) (r := slabR j) (Mk := Finset.univ) (Finset.subset_univ _)) $$ H; iintro H
  iapply Hk; iexact H

/-! ## Whole operands, and the result -/

theorem wp_ld_x (c : Dev nD) (X : S1024x256.Idx → Elt F .f32) {o : Fin 2 → ℕ} (ho : o = ![0, 0]) {hi : ∀ a, o a + S1024x256.size a ≤ S1024x256.size a}
    {hl : xM.view.LoadsAt (Rect.unit (s := S1024x256) o S1024x256.size hi).toLoadRect}
    {α : Type} {Q : α → sProp 𝕄} {k : (S1024x256.Idx → Elt F .f32) → Prog (TpuEff nD τ sig (Elt F) Λ₀ .tc) α} :
    (xM.view.loc (c : Thread nD τ) ↦{fullShare} X : sProp 𝕄)
      ⊢ iprop(((xM.view.loc (c : Thread nD τ) ↦{fullShare} X) -∗ WP c (k X) Q)
        -∗ WP c (.op (.load xM (Rect.unit (s := S1024x256) o S1024x256.size hi).toLoadRect hl) k) Q) := by
  subst ho
  have e : xM.view.readAt (Elt F) (Rect.unit (s := S1024x256) ![0, 0] S1024x256.size hi).toLoadRect X = X :=
    Memref.readAt_unit_zero (Elt F) cc0_stg0_0 zero2 hi X
  iintro H Hk
  iapply (wp_load 𝒱₀ (c : Thread nD τ) none Set.univ (m := xM) (Finset.subset_univ _)) $$ H
  iintro H
  iapply (Entails.of_eq (congrArg (fun v => WP c (k v) Q) e.symm))
  iapply Hk; iexact H

theorem wp_ld_r (c : Dev nD) (X : S256x32.Idx → Elt F .f32) {o : Fin 2 → ℕ} (ho : o = ![0, 0]) {hi : ∀ a, o a + S256x32.size a ≤ S256x32.size a}
    {hl : rM.view.LoadsAt (Rect.unit (s := S256x32) o S256x32.size hi).toLoadRect}
    {α : Type} {Q : α → sProp 𝕄} {k : (S256x32.Idx → Elt F .f32) → Prog (TpuEff nD τ sig (Elt F) Λ₀ .tc) α} :
    (rM.view.loc (c : Thread nD τ) ↦{fullShare} X : sProp 𝕄)
      ⊢ iprop(((rM.view.loc (c : Thread nD τ) ↦{fullShare} X) -∗ WP c (k X) Q)
        -∗ WP c (.op (.load rM (Rect.unit (s := S256x32) o S256x32.size hi).toLoadRect hl) k) Q) := by
  subst ho
  have e : rM.view.readAt (Elt F) (Rect.unit (s := S256x32) ![0, 0] S256x32.size hi).toLoadRect X = X :=
    Memref.readAt_unit_zero (Elt F) cc0_stg1_0 zero2 hi X
  iintro H Hk
  iapply (wp_load 𝒱₀ (c : Thread nD τ) none Set.univ (m := rM) (Finset.subset_univ _)) $$ H
  iintro H
  iapply (Entails.of_eq (congrArg (fun v => WP c (k v) Q) e.symm))
  iapply Hk; iexact H

theorem wp_ld_i (c : Dev nD) (X : S1024x1.Idx → Elt F .i32) {o : Fin 2 → ℕ} (ho : o = ![0, 0]) {hi : ∀ a, o a + S1024x1.size a ≤ S1024x1.size a}
    {hl : iM.view.LoadsAt (Rect.unit (s := S1024x1) o S1024x1.size hi).toLoadRect}
    {α : Type} {Q : α → sProp 𝕄} {k : (S1024x1.Idx → Elt F .i32) → Prog (TpuEff nD τ sig (Elt F) Λ₀ .tc) α} :
    (iM.view.loc (c : Thread nD τ) ↦{fullShare} X : sProp 𝕄)
      ⊢ iprop(((iM.view.loc (c : Thread nD τ) ↦{fullShare} X) -∗ WP c (k X) Q)
        -∗ WP c (.op (.load iM (Rect.unit (s := S1024x1) o S1024x1.size hi).toLoadRect hl) k) Q) := by
  subst ho
  have e : iM.view.readAt (Elt F) (Rect.unit (s := S1024x1) ![0, 0] S1024x1.size hi).toLoadRect X = X :=
    Memref.readAt_unit_zero (Elt F) cc0_stg2_0 zero2 hi X
  iintro H Hk
  iapply (wp_load 𝒱₀ (c : Thread nD τ) none Set.univ (m := iM) (Finset.subset_univ _)) $$ H
  iintro H
  iapply (Entails.of_eq (congrArg (fun v => WP c (k v) Q) e.symm))
  iapply Hk; iexact H

theorem wp_ld_w (c : Dev nD) (X : S256x512.Idx → Elt F .f32) {o : Fin 2 → ℕ} (ho : o = ![0, 0]) {hi : ∀ a, o a + S256x512.size a ≤ S256x512.size a}
    {hl : wM.view.LoadsAt (Rect.unit (s := S256x512) o S256x512.size hi).toLoadRect}
    {α : Type} {Q : α → sProp 𝕄} {k : (S256x512.Idx → Elt F .f32) → Prog (TpuEff nD τ sig (Elt F) Λ₀ .tc) α} :
    (wM.view.loc (c : Thread nD τ) ↦{fullShare} X : sProp 𝕄)
      ⊢ iprop(((wM.view.loc (c : Thread nD τ) ↦{fullShare} X) -∗ WP c (k X) Q)
        -∗ WP c (.op (.load wM (Rect.unit (s := S256x512) o S256x512.size hi).toLoadRect hl) k) Q) := by
  subst ho
  have e : wM.view.readAt (Elt F) (Rect.unit (s := S256x512) ![0, 0] S256x512.size hi).toLoadRect X = X :=
    Memref.readAt_unit_zero (Elt F) cc0_stg4_0 zero2 hi X
  iintro H Hk
  iapply (wp_load 𝒱₀ (c : Thread nD τ) none Set.univ (m := wM) (Finset.subset_univ _)) $$ H
  iintro H
  iapply (Entails.of_eq (congrArg (fun v => WP c (k v) Q) e.symm))
  iapply Hk; iexact H

/-- A load of the device's own rows of the input. -/
theorem wp_ld_own (c : Dev nD) {o : Fin 2 → ℕ} (ho : o = ![128 * c.val, 0]) {hi : ∀ a, o a + S128x256.size a ≤ S1024x256.size a}
    {hl : xM.view.LoadsAt (Rect.unit (s := S1024x256) o S128x256.size hi).toLoadRect}
    {α : Type} {Q : α → sProp 𝕄} {k : (S128x256.Idx → Elt F .f32) → Prog (TpuEff nD τ sig (Elt F) Λ₀ .tc) α} :
    (xM.view.loc (c : Thread nD τ) ↦{fullShare} X0 m c : sProp 𝕄)
      ⊢ iprop(((xM.view.loc (c : Thread nD τ) ↦{fullShare} X0 m c) -∗ WP c (k (xM.view.readAt (Elt F) (xrowR c).toLoadRect (X0 m c))) Q)
        -∗ WP c (.op (.load xM (Rect.unit (s := S1024x256) o S128x256.size hi).toLoadRect hl) k) Q) := by
  subst ho
  exact wp_load 𝒱₀ (c : Thread nD τ) none Set.univ (m := xM) (Finset.subset_univ _)

/-- The result stored whole (after a load that is not used). -/
theorem wp_out (c : Dev nD) (f : cc0_stg5_0.ty.Contents (Elt F)) {o : Fin 2 → ℕ} (ho : o = ![0, 0])
    {hi : ∀ a, o a + S128x512.size a ≤ S128x512.size a}
    {hl : oM.view.LoadsAt (Rect.unit (s := S128x512) o S128x512.size hi).toLoadRect}
    {w : FVec F S128x512 .f32} (hw : w = outAt m c) {hst hm}
    {α : Type} {Q : α → sProp 𝕄} {k : PUnit → Prog (TpuEff nD τ sig (Elt F) Λ₀ .tc) α} :
    (oM.view.loc (c : Thread nD τ) ↦{fullShare} f : sProp 𝕄)
      ⊢ iprop(((oM.view.loc (c : Thread nD τ) ↦{fullShare} outAt m c) -∗ WP c (k ⟨⟩) Q)
        -∗ WP c (.op (.load oM (Rect.unit (s := S128x512) o S128x512.size hi).toLoadRect hl) fun _ =>
            .op (.store oM (Rect.unit (s := S128x512) o S128x512.size hi) w Finset.univ hst hm) k) Q) := by
  subst ho hw
  have e := Memref.write_access_unit_zero_univ (Elt F) cc0_stg5_0 zero2 hi f (outAt m c)
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S128x512) ![0, 0] S128x512.size hi) (Mk := Finset.univ) (Finset.subset_univ _)) $$ H; iintro H
  iapply Hk
  iapply (Entails.of_eq (congrArg (fun g : cc0_stg5_0.ty.Contents (Elt F) => (oM.view.loc (c : Thread nD τ) ↦{fullShare} g : sProp 𝕄)) e))
  iexact H

end Cert.Moe

end
-- ==== Proof.Body.lean ====
/- The body on one device, run from what the launch hands it to what it leaves. -/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A whole buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- A whole buffer of device `c` holding anything. -/
abbrev anyBuf (c : Dev nD) (b : Ref sig .tc) : sProp 𝕄 :=
  iprop(∃ f : Buf (Elt F) (((c : Dev nD) : Thread nD τ).loc b), (((c : Thread nD τ).loc b) ↦{fullShare} f))

/-- What the body starts from, besides its staged operands. -/
def bodyIn (c : Dev nD) : sProp 𝕄 :=
  iprop(records m K ∗ levAts L lv ∗ cred (tallyAt (cell c bar) () 7) ∗ atPos ER (cell c bar) 0 ∅ 0
    ∗ (bigSep Finset.univ fun s => sigRes c s) ∗ (bigSep Finset.univ fun s => blkRes c s) ∗ (bigSep Finset.univ fun s => rcvRes c s)
    ∗ rowsAny c c ∗ anyBuf c cc0_scratch2)
/-- What it leaves: the scratch buffers' pieces and every counter of its own at zero. -/
def bodyOut (c : Dev nD) : sProp 𝕄 :=
  iprop(semVal (cell c bar) 0 ∗ (bigSep Finset.univ fun s => sndDone c s) ∗ (bigSep Finset.univ fun s => rcvDone c s)
    ∗ rowsAny c c ∗ anyBuf c cc0_scratch2)

/-- A finished body gives its postcondition. -/
theorem wp_done (c : Dev nD) (Q : PUnit → sProp 𝕄) : Q ⟨⟩ ⊢ WP c (.ret ⟨⟩) Q := by
  delta WP
  rw [wp_ret]; exact fupd_intro

set_option maxHeartbeats 4000000 in
set_option maxRecDepth 20000 in
/-- The body, one step after the other, to its result. -/
theorem sound_body (c : Dev nD) (Q : PUnit → sProp 𝕄) :
    iprop((bodyIn m K c ∗ debt c (owed0 c) ∗ stg c cc0_stg0_0 (X0 m c) ∗ stg c cc0_stg1_0 (X1 m c) ∗ stg c cc0_stg2_0 (X2 m c)
        ∗ stg c cc0_stg3_0 (X3 m c) ∗ stg c cc0_stg4_0 (X4 m c) ∗ anyBuf c cc0_stg5_0)
      ∗ ((bodyOut c ∗ debt c 0 ∗ stg c cc0_stg0_0 (X0 m c) ∗ stg c cc0_stg1_0 (X1 m c) ∗ stg c cc0_stg2_0 (X2 m c)
        ∗ stg c cc0_stg3_0 (X3 m c) ∗ stg c cc0_stg4_0 (X4 m c) ∗ stg c cc0_stg5_0 (outAt m c)) -∗ Q ⟨⟩))
      ⊢ WP c (cc0_body xM (Memref.isWhole_whole _) rM (Memref.isWhole_whole _) iM (Memref.isWhole_whole _) eM (Memref.isWhole_whole _)
          wM (Memref.isWhole_whole _) oM (Memref.isWhole_whole _) pM (Memref.isWhole_whole _) cM (Memref.isWhole_whole _)
          xwM (Memref.isWhole_whole _) cc0_scratch3 cc0_scratch4) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [semSignalWord, semWaitWord, Prog.lift, Prog.bind_op, Prog.bind_ret, Prog.pure_eq_ret, wp_deviceId]
  unfold bodyIn
  rw [bigSep_fin7, bigSep_fin7, bigSep_fin7]
  iintro ⟨⟨⟨#HR, #Hlev, HcB, HaB, ⟨Hs0, Hs1, Hs2, Hs3, Hs4, Hs5, Hs6⟩, ⟨Hb0, Hb1, Hb2, Hb3, Hb4, Hb5, Hb6⟩, ⟨Hr0, Hr1, Hr2, Hr3, Hr4, Hr5, Hr6⟩, Hown, ⟨%fx, Hx⟩⟩, HO,
    ⟨%g0, %hg0, H0⟩, ⟨%g1, %hg1, H1⟩, ⟨%g2, %hg2, H2⟩, ⟨%g3, %hg3, He⟩, ⟨%g4, %hg4, H4⟩, ⟨%g5, H5⟩⟩, Hk⟩
  subst hg0 hg1 hg2 hg3 hg4
  unfold owed0
  iapply (wp_sig m K c 0 [1, 2, 3, 4, 5, 6] _ (dev1_eq c) _ (by decide)) $$ [Hs0 HO]
  · isplitr; · iexact HR
    isplitl [Hs0] <;> iassumption
  iintro HO
  iapply (wp_sig m K c 1 [2, 3, 4, 5, 6] _ (dev2_eq c) _ (by decide)) $$ [Hs1 HO]
  · isplitr; · iexact HR
    isplitl [Hs1] <;> iassumption
  iintro HO
  iapply (wp_sig m K c 2 [3, 4, 5, 6] _ (dev3_eq c) _ (by decide)) $$ [Hs2 HO]
  · isplitr; · iexact HR
    isplitl [Hs2] <;> iassumption
  iintro HO
  iapply (wp_sig m K c 3 [4, 5, 6] _ (dev4_eq c) _ (by decide)) $$ [Hs3 HO]
  · isplitr; · iexact HR
    isplitl [Hs3] <;> iassumption
  iintro HO
  iapply (wp_sig m K c 4 [5, 6] _ (dev5_eq c) _ (by decide)) $$ [Hs4 HO]
  · isplitr; · iexact HR
    isplitl [Hs4] <;> iassumption
  iintro HO
  iapply (wp_sig m K c 5 [6] _ (dev6_eq c) _ (by decide)) $$ [Hs5 HO]
  · isplitr; · iexact HR
    isplitl [Hs5] <;> iassumption
  iintro HO
  iapply (wp_sig m K c 6 [] _ (dev7_eq c) _ (by decide)) $$ [Hs6 HO]
  · isplitr; · iexact HR
    isplitl [Hs6] <;> iassumption
  iintro HO
  iapply (wp_barwait m K c _ (by decide)) $$ [HcB HaB HO]
  · isplitr; · iexact HR
    isplitr; · iexact Hlev
    isplitl [HcB]; · iexact HcB
    isplitl [HaB] <;> iassumption
  iintro ⟨HO, HzB, Hps⟩
  ihave Hps := (Entails.of_eq (bigSep_fin7 (F := F) fun s => slotAny (peer c s) s)) $$ Hps
  icases Hps with ⟨Hp0, Hp1, Hp2, Hp3, Hp4, Hp5, Hp6⟩
  -- the gate and the gated rows
  iapply (wp_ld_x c (X0 m c) rfl) $$ H0; iintro H0
  iapply (wp_ld_r c (X1 m c) rfl) $$ H1; iintro H1
  iapply (wp_ld_i c (X2 m c) rfl) $$ H2; iintro H2
  iapply (wp_slab m c 0 fx rfl rfl) $$ Hx; iintro Hx
  iapply (wp_slab m c 1 _ rfl rfl) $$ Hx; iintro Hx
  iapply (wp_slab m c 2 _ rfl rfl) $$ Hx; iintro Hx
  iapply (wp_slab m c 3 _ rfl rfl) $$ Hx; iintro Hx
  ihave Hx := (Entails.of_eq (congrArg (fun f : cc0_scratch2.ty.Contents (Elt F) => (xwM.view.loc (c : Thread nD τ) ↦{fullShare} f : sProp 𝕄)) (write_slabs m c fx))) $$ Hx
  ihave Hx := (Entails.of_eq (show (xwM.view.loc (c : Thread nD τ) ↦{fullShare} xwBuf m c : sProp 𝕄) = heldXw m c from rfl)) $$ Hx
  ihave He := (Entails.of_eq (show (((c : Thread nD τ).loc cc0_stg3_0) ↦{fullShare} X3 m c : sProp 𝕄) = heldE m c from rfl)) $$ He
  -- exchange 0
  iapply (wp_phase m K c 0 [1, 2, 3, 4, 5, 6] (off1_eq c 0) rfl (off2_eq c 0) rfl (off3_eq c 0) rfl (off4_eq c 0) rfl (off5_eq c 0) (off6_eq c 0)
    _ (dev8_eq c) rfl rfl rfl rfl) $$ [Hx He Hb0 Hp0 HO]
  · isplitr; · iexact HR
    isplitl [Hx]; · iexact Hx
    isplitl [He]; · iexact He
    isplitl [Hb0]; · iexact Hb0
    isplitl [Hp0] <;> iassumption
  iintro ⟨Hx, He, Hn0, HO⟩
  -- exchange 1
  iapply (wp_phase m K c 1 [2, 3, 4, 5, 6] (off1_eq c 1) rfl (off2_eq c 1) rfl (off3_eq c 1) rfl (off4_eq c 1) rfl (off5_eq c 1) (off6_eq c 1)
    _ (dev9_eq c) rfl rfl rfl rfl) $$ [Hx He Hb1 Hp1 HO]
  · isplitr; · iexact HR
    isplitl [Hx]; · iexact Hx
    isplitl [He]; · iexact He
    isplitl [Hb1]; · iexact Hb1
    isplitl [Hp1] <;> iassumption
  iintro ⟨Hx, He, Hn1, HO⟩
  -- exchange 2
  iapply (wp_phase m K c 2 [3, 4, 5, 6] (off1_eq c 2) rfl (off2_eq c 2) rfl (off3_eq c 2) rfl (off4_eq c 2) rfl (off5_eq c 2) (off6_eq c 2)
    _ (dev10_eq c) rfl rfl rfl rfl) $$ [Hx He Hb2 Hp2 HO]
  · isplitr; · iexact HR
    isplitl [Hx]; · iexact Hx
    isplitl [He]; · iexact He
    isplitl [Hb2]; · iexact Hb2
    isplitl [Hp2] <;> iassumption
  iintro ⟨Hx, He, Hn2, HO⟩
  -- exchange 3
  iapply (wp_phase m K c 3 [4, 5, 6] (off1_eq c 3) rfl (off2_eq c 3) rfl (off3_eq c 3) rfl (off4_eq c 3) rfl (off5_eq c 3) (off6_eq c 3)
    _ (dev11_eq c) rfl rfl rfl rfl) $$ [Hx He Hb3 Hp3 HO]
  · isplitr; · iexact HR
    isplitl [Hx]; · iexact Hx
    isplitl [He]; · iexact He
    isplitl [Hb3]; · iexact Hb3
    isplitl [Hp3] <;> iassumption
  iintro ⟨Hx, He, Hn3, HO⟩
  -- exchange 4
  iapply (wp_phase m K c 4 [5, 6] (off1_eq c 4) rfl (off2_eq c 4) rfl (off3_eq c 4) rfl (off4_eq c 4) rfl (off5_eq c 4) (off6_eq c 4)
    _ (dev12_eq c) rfl rfl rfl rfl) $$ [Hx He Hb4 Hp4 HO]
  · isplitr; · iexact HR
    isplitl [Hx]; · iexact Hx
    isplitl [He]; · iexact He
    isplitl [Hb4]; · iexact Hb4
    isplitl [Hp4] <;> iassumption
  iintro ⟨Hx, He, Hn4, HO⟩
  -- exchange 5
  iapply (wp_phase m K c 5 [6] (off1_eq c 5) rfl (off2_eq c 5) rfl (off3_eq c 5) rfl (off4_eq c 5) rfl (off5_eq c 5) (off6_eq c 5)
    _ (dev13_eq c) rfl rfl rfl rfl) $$ [Hx He Hb5 Hp5 HO]
  · isplitr; · iexact HR
    isplitl [Hx]; · iexact Hx
    isplitl [He]; · iexact He
    isplitl [Hb5]; · iexact Hb5
    isplitl [Hp5] <;> iassumption
  iintro ⟨Hx, He, Hn5, HO⟩
  -- exchange 6
  iapply (wp_phase m K c 6 [] (off1_eq c 6) rfl (off2_eq c 6) rfl (off3_eq c 6) rfl (off4_eq c 6) rfl (off5_eq c 6) (off6_eq c 6)
    _ (dev14_eq c) rfl rfl rfl rfl) $$ [Hx He Hb6 Hp6 HO]
  · isplitr; · iexact HR
    isplitl [Hx]; · iexact Hx
    isplitl [He]; · iexact He
    isplitl [Hb6]; · iexact Hb6
    isplitl [Hp6] <;> iassumption
  iintro ⟨Hx, He, Hn6, HO⟩
  -- the device's own rows
  iapply (wp_ld_own m c (off7_eq c)) $$ H0; iintro H0
  iapply (wp_ld_w c (X4 m c) rfl) $$ H4; iintro H4
  iapply (wp_ld_xw m c 0 c (off8_eq c)) $$ Hx; iintro Hx
  iapply (wp_ld_e m c 0 rfl) $$ He; iintro He
  iapply (wp_ld_xw m c 1 c (off9_eq c)) $$ Hx; iintro Hx
  iapply (wp_ld_e m c 1 rfl) $$ He; iintro He
  iapply (wp_ld_xw m c 2 c (off10_eq c)) $$ Hx; iintro Hx
  iapply (wp_ld_e m c 2 rfl) $$ He; iintro He
  iapply (wp_ld_xw m c 3 c (off11_eq c)) $$ Hx; iintro Hx
  iapply (wp_ld_e m c 3 rfl) $$ He; iintro He
  -- the peers' blocks
  ihave HO := (Entails.of_eq (show (debt c (oweBlk c []) : sProp 𝕄) = debt c 0 from rfl)) $$ HO
  iapply (wp_rcv m K c 0 rfl rfl rfl) $$ [Hr0 HO]
  · isplitr; · iexact HR
    isplitl [Hr0] <;> iassumption
  iintro ⟨Hr0, HO⟩
  iapply (wp_rcv m K c 1 rfl rfl rfl) $$ [Hr1 HO]
  · isplitr; · iexact HR
    isplitl [Hr1] <;> iassumption
  iintro ⟨Hr1, HO⟩
  iapply (wp_rcv m K c 2 rfl rfl rfl) $$ [Hr2 HO]
  · isplitr; · iexact HR
    isplitl [Hr2] <;> iassumption
  iintro ⟨Hr2, HO⟩
  iapply (wp_rcv m K c 3 rfl rfl rfl) $$ [Hr3 HO]
  · isplitr; · iexact HR
    isplitl [Hr3] <;> iassumption
  iintro ⟨Hr3, HO⟩
  iapply (wp_rcv m K c 4 rfl rfl rfl) $$ [Hr4 HO]
  · isplitr; · iexact HR
    isplitl [Hr4] <;> iassumption
  iintro ⟨Hr4, HO⟩
  iapply (wp_rcv m K c 5 rfl rfl rfl) $$ [Hr5 HO]
  · isplitr; · iexact HR
    isplitl [Hr5] <;> iassumption
  iintro ⟨Hr5, HO⟩
  iapply (wp_rcv m K c 6 rfl rfl rfl) $$ [Hr6 HO]
  · isplitr; · iexact HR
    isplitl [Hr6] <;> iassumption
  iintro ⟨Hr6, HO⟩
  -- the result
  iapply (wp_out m c g5 rfl rfl) $$ H5; iintro H5
  -- the blocks are sent
  iapply (wp_sent m K c 0 rfl) $$ [Hn0 HO]
  · isplitr; · iexact HR
    isplitl [Hn0] <;> iassumption
  iintro ⟨Hn0, HO⟩
  iapply (wp_sent m K c 1 rfl) $$ [Hn1 HO]
  · isplitr; · iexact HR
    isplitl [Hn1] <;> iassumption
  iintro ⟨Hn1, HO⟩
  iapply (wp_sent m K c 2 rfl) $$ [Hn2 HO]
  · isplitr; · iexact HR
    isplitl [Hn2] <;> iassumption
  iintro ⟨Hn2, HO⟩
  iapply (wp_sent m K c 3 rfl) $$ [Hn3 HO]
  · isplitr; · iexact HR
    isplitl [Hn3] <;> iassumption
  iintro ⟨Hn3, HO⟩
  iapply (wp_sent m K c 4 rfl) $$ [Hn4 HO]
  · isplitr; · iexact HR
    isplitl [Hn4] <;> iassumption
  iintro ⟨Hn4, HO⟩
  iapply (wp_sent m K c 5 rfl) $$ [Hn5 HO]
  · isplitr; · iexact HR
    isplitl [Hn5] <;> iassumption
  iintro ⟨Hn5, HO⟩
  iapply (wp_sent m K c 6 rfl) $$ [Hn6 HO]
  · isplitr; · iexact HR
    isplitl [Hn6] <;> iassumption
  iintro ⟨Hn6, HO⟩
  iapply (wp_done c Q)
  iapply Hk
  unfold bodyOut
  rw [bigSep_fin7, bigSep_fin7]
  isplitl [HzB Hn0 Hn1 Hn2 Hn3 Hn4 Hn5 Hn6 Hr0 Hr1 Hr2 Hr3 Hr4 Hr5 Hr6 Hown Hx]
  · isplitl [HzB]; · iexact HzB
    isplitl [Hn0 Hn1 Hn2 Hn3 Hn4 Hn5 Hn6]
    · skip
      isplitl [Hn0]; · iexact Hn0
      isplitl [Hn1]; · iexact Hn1
      isplitl [Hn2]; · iexact Hn2
      isplitl [Hn3]; · iexact Hn3
      isplitl [Hn4]; · iexact Hn4
      isplitl [Hn5]; · iexact Hn5
      iexact Hn6
    isplitl [Hr0 Hr1 Hr2 Hr3 Hr4 Hr5 Hr6]
    · skip
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact Hr6
    isplitl [Hown]; · iexact Hown
    iexists (xwBuf m c); unfold heldXw; iexact Hx
  isplitl [HO]; · iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [He]; · iexists _; isplitr; · (ipureintro; rfl)
                  unfold heldE; iexact He
  isplitl [H4]; · iexists _; isplitr; · (ipureintro; rfl)
                  iexact H4
  iexists _; isplitr; swap; · iexact H5
  ipureintro; rfl

end Cert.Moe

end
-- ==== Proof.Launch.lean ====
/- The launch: what the eight devices' start hands to every body, and the run of the whole program. -/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the index types -/

omit [FloatOps F] in
theorem bigSep_option {A : Type} [Fintype A] [DecidableEq A] (Φ : Option A → sProp 𝕄) :
    bigSep Finset.univ Φ = iprop(Φ none ∗ bigSep Finset.univ fun a => Φ (some a)) := by
  rw [bigSep_univ_at Φ none, show (Finset.univ : Finset (Option A)).erase none = Finset.univ.image some from by
    ext x; cases x <;> simp]
  rw [bigSep_image_of_injOn (fun a _ b _ h => Option.some.inj h) Φ]

omit [FloatOps F] in
theorem bigSep_bool {A : Type} [Fintype A] [DecidableEq A] (Φ : Bool × A → sProp 𝕄) :
    bigSep Finset.univ Φ = iprop((bigSep Finset.univ fun a => Φ (false, a)) ∗ bigSep Finset.univ fun a => Φ (true, a)) := by
  rw [bigSep_univ_prod]
  exact bigSep_univ_eq_bigSepL [false, true] (by decide) (by decide) _

omit [FloatOps F] in
/-- Over a device's cells: its barrier, its send cells, its receive cells. -/
theorem bigSep_cells (Φ : Cell → sProp 𝕄) :
    bigSep Finset.univ Φ = iprop(Φ bar ∗ (bigSep Finset.univ fun s => Φ (snd s)) ∗ bigSep Finset.univ fun s => Φ (rcv s)) := by
  rw [bigSep_option, bigSep_bool]

theorem peers_eq (c : Dev nD) : (Finset.univ : Finset (Dev nD)).erase c = Finset.univ.image (fun s => peer c s) := by
  revert c; decide
theorem peer_injective (c : Dev nD) : Function.Injective (fun s => peer c s) := by revert c; decide

omit [FloatOps F] in
/-- Over the devices: one of them, and its peers by exchange number. -/
theorem bigSep_peers (c : Dev nD) (Φ : Dev nD → sProp 𝕄) :
    bigSep Finset.univ Φ = iprop(Φ c ∗ bigSep Finset.univ fun s => Φ (peer c s)) := by
  rw [bigSep_univ_at Φ c, peers_eq c, bigSep_image_of_injOn (fun a _ b _ h => peer_injective c h) Φ]

/-! ## The scratch buffers by pieces -/

abbrev rowsI (b : Dev nD) : Finset S1024x512.Idx := (rowsM b).view.set
abbrev slotI (b : Fin 7) : Finset S7x128x512.Idx := (slotM b).view.set
theorem rows_set (d : Dev nD) : (rowsM d).view.set = (rowsR d).set := View.set_slice_whole _ _
theorem slot_set' (s : Fin 7) : (slotM s).view.set = (slotR s).set := (slot_set s).symm.trans (View.set_slice_whole _ _)

theorem rows_disjoint (b b' : Dev nD) (h : b ≠ b') : Disjoint (rowsM b).view.set (rowsM b').view.set := by
  rw [rows_set, rows_set]
  exact Ring.lead_disjoint (s := S1024x512) (NB := 8) (0 : Fin 2) 128 (fun d => ![128 * d.val, 0]) S128x512.size rows_inb
    (fun _ => rfl) rfl b b' h
theorem rows_cover : Finset.univ.biUnion (fun b : Dev nD => rowsI b) = Finset.univ := by
  rw [show (fun b : Dev nD => rowsI b) = fun b => (rowsR b).set from funext rows_set]
  exact Ring.lead_cover (s := S1024x512) (NB := 8) (0 : Fin 2) 128 (fun d => ![128 * d.val, 0]) S128x512.size rows_inb
    (fun _ => rfl) (fun b a h => by fin_cases a; exacts [absurd rfl h, rfl]) rfl (fun a h => by fin_cases a; exacts [absurd rfl h, rfl]) rfl
theorem slot_disjoint (b b' : Fin 7) (h : b ≠ b') : Disjoint (slotM b).view.set (slotM b').view.set := by
  rw [slot_set', slot_set']
  exact Ring.lead_disjoint (s := S7x128x512) (NB := 7) (0 : Fin 3) 1 (fun d => ![d.val, 0, 0]) S1x128x512.size slot_inb
    (fun b => (Nat.one_mul _).symm) rfl b b' h
theorem slot_cover : Finset.univ.biUnion (fun b : Fin 7 => slotI b) = Finset.univ := by
  rw [show (fun b : Fin 7 => slotI b) = fun b => (slotR b).set from funext slot_set']
  exact Ring.lead_cover (s := S7x128x512) (NB := 7) (0 : Fin 3) 1 (fun d => ![d.val, 0, 0]) S1x128x512.size slot_inb
    (fun b => (Nat.one_mul _).symm) (fun b a h => by fin_cases a; exacts [absurd rfl h, rfl, rfl]) rfl
    (fun a h => by fin_cases a; exacts [absurd rfl h, rfl, rfl]) rfl

omit [FloatOps F] in
theorem rows_any (c b : Dev nD) (f : Buf (Elt F) ((c : Thread nD τ).loc cc0_scratch0)) :
    ((c : Thread nD τ).loc cc0_scratch0 ↦[rowsI b]{fullShare} f : sProp 𝕄) ⊢ rowsAny c b := by
  unfold rowsAny; iintro H; iexists f; iexact H
omit [FloatOps F] in
theorem slot_any (c : Dev nD) (b : Fin 7) (f : Buf (Elt F) ((c : Thread nD τ).loc cc0_scratch1)) :
    ((c : Thread nD τ).loc cc0_scratch1 ↦[slotI b]{fullShare} f : sProp 𝕄) ⊢ slotAny c b := by
  unfold slotAny; iintro H; iexists f; iexact H

omit [FloatOps F] in
theorem split_rows (c : Dev nD) : (anyBuf c cc0_scratch0 : sProp 𝕄)
    ⊢ iprop(rowsAny c c ∗ bigSep Finset.univ fun s => rowsAny c (peer c s)) := by
  iintro ⟨%f, H⟩
  ihave H := (Entails.of_eq (Ring.pointsTo_blocks (fun b : Dev nD => rowsI b) rows_disjoint rows_cover f)) $$ H
  have h : (bigSep Finset.univ fun b : Dev nD => (((c : Thread nD τ).loc cc0_scratch0) ↦[rowsI b]{fullShare} f : sProp 𝕄))
      ⊢ bigSep Finset.univ fun b => rowsAny c b :=
    bigSep_mono fun b _ => rows_any c b f
  iapply (h.trans (Entails.of_eq (bigSep_peers c (rowsAny c))))
  iexact H

theorem join_rows (c : Dev nD) : iprop(rowsAny c c ∗ bigSep Finset.univ fun s => rowsAny c (peer c s))
    ⊢ (anyBuf c cc0_scratch0 : sProp 𝕄) := by
  rw [← bigSep_peers c (rowsAny c)]
  iintro H
  iapply (Ring.pointsTo_blocks_join_exists (ℓ := (c : Thread nD τ).loc cc0_scratch0) (fun b : Dev nD => rowsI b)
    rows_disjoint rows_cover (fun _ => Classical.arbitrary _))
  iexact H

omit [FloatOps F] in
theorem split_slots (c : Dev nD) : (anyBuf c cc0_scratch1 : sProp 𝕄) ⊢ bigSep Finset.univ fun s => slotAny c s := by
  iintro ⟨%f, H⟩
  ihave H := (Entails.of_eq (Ring.pointsTo_blocks (fun b : Fin 7 => slotI b) slot_disjoint slot_cover f)) $$ H
  have h : (bigSep Finset.univ fun b : Fin 7 => (((c : Thread nD τ).loc cc0_scratch1) ↦[slotI b]{fullShare} f : sProp 𝕄))
      ⊢ bigSep Finset.univ fun b => slotAny c b :=
    bigSep_mono fun b _ => slot_any c b f
  iapply h
  iexact H

theorem join_slots (c : Dev nD) : (bigSep Finset.univ fun s => slotAny c s) ⊢ (anyBuf c cc0_scratch1 : sProp 𝕄) := by
  iintro H
  iapply (Ring.pointsTo_blocks_join_exists (ℓ := (c : Thread nD τ).loc cc0_scratch1) (fun b : Fin 7 => slotI b)
    slot_disjoint slot_cover (fun _ => Classical.arbitrary _))
  iexact H

/-- The exchange numbers and those by which the peers answer correspond one to one. -/
def oppEquiv : Fin 7 ≃ Fin 7 := ⟨opp, opp, opp_opp, opp_opp⟩

/-! ## What a device holds at launch -/

/-- The tokens of the duties of device `c`'s own cells; -/
def toks (c : Dev nD) : sProp 𝕄 :=
  iprop((bigSep Finset.univ fun s => dutyTok ER (cell c bar) 0 s) ∗ (bigSep Finset.univ fun s => dutyTok ER (cell c (snd s)) 0 0)
    ∗ bigSep Finset.univ fun s => dutyTok ER (cell c (rcv s)) 0 0)
/-- those of the duties it pays; -/
def payToks (c : Dev nD) : sProp 𝕄 :=
  iprop((bigSep Finset.univ fun s => dutyTok ER (cell (peer c s) bar) 0 (opp s)) ∗ (bigSep Finset.univ fun s => dutyTok ER (cell c (snd s)) 0 0)
    ∗ bigSep Finset.univ fun s => dutyTok ER (cell (peer c s) (rcv s)) 0 0)
/-- its positions and the tokens it pays with; -/
def linear (c : Dev nD) : sProp 𝕄 :=
  iprop((bigSep Finset.univ fun k : Cell => atPos ER (cell c k) 0 ∅ 0) ∗ payToks c)
/-- the ghost state after the allocation, -/
def held (c : Dev nD) : sProp 𝕄 := iprop(∃ K, records m K ∗ linear c)
/-- and with the launch's credit and the levels. -/
def start (c : Dev nD) : sProp 𝕄 :=
  iprop(held m c ∗ cred (tallyAt (cell c bar) () 7) ∗ (bigSep Finset.univ fun s => cred (tallyAt (cell c (rcv s)) () N)) ∗ levAts L lv)

/-- What the body's one point starts from, and what it leaves, besides the windows. -/
def Φ₀ (c : Dev nD) : sProp 𝕄 := iprop(start m c ∗ anyBuf c cc0_scratch0 ∗ anyBuf c cc0_scratch1 ∗ anyBuf c cc0_scratch2)
def Φ₁ (c : Dev nD) : sProp 𝕄 :=
  iprop(unscopedSems0 c ∗ (bigSep Finset.univ fun x : Bool × Fin 7 => semVal (cell c (some x)) 0)
    ∗ anyBuf c cc0_scratch0 ∗ anyBuf c cc0_scratch1 ∗ anyBuf c cc0_scratch2)

omit [FloatOps F] in
theorem unscopedSems0_eq (c : Dev nD) : (unscopedSems0 c : sProp 𝕄) = semVal (cell c bar) 0 := by
  unfold unscopedSems0; rw [bigSep_eq_bigSepL_of_eq [SemLoc.reg barS] (by decide) (by decide)]; rfl

/-- The launch's holdings, piece by piece as the body takes them. -/
theorem start_body (c : Dev nD) : Φ₀ m c ⊢ iprop(∃ K, bodyIn m K c) := by
  unfold Φ₀ start held linear payToks bodyIn sigRes blkRes rcvRes
  iintro ⟨⟨⟨%K, #HR, Hat, Htb, Hts, Htr⟩, HcB, HcR, #Hlev⟩, Hp, Hc, Hx⟩
  ihave Hat := (Entails.of_eq (bigSep_cells (fun k => (atPos ER (cell c k) 0 ∅ 0 : sProp 𝕄)))) $$ Hat
  icases Hat with ⟨HaB, HaS, HaR⟩
  ihave Hp := (split_rows (F := F) c) $$ Hp
  icases Hp with ⟨Hown, Hp⟩
  ihave Hc := ((split_slots (F := F) c).trans (Entails.of_eq (bigSep_univ_equiv oppEquiv (slotAny (F := F) c)))) $$ Hc
  iexists K
  simp only [bigSep_sep']
  isplitr; · iexact HR
  isplitr; · iexact Hlev
  isplitl [HcB]; · iexact HcB
  isplitl [HaB]; · iexact HaB
  isplitl [Htb Hc]
  · isplitl [Htb]; · iexact Htb
    iexact Hc
  isplitl [Hts Htr HaS Hp]
  · isplitl [Hts]; · iexact Hts
    isplitl [Htr]; · iexact Htr
    isplitl [HaS]; · iexact HaS
    iexact Hp
  isplitl [HcR HaR]
  · isplitl [HcR] <;> iassumption
  isplitl [Hown]; · iexact Hown
  iexact Hx

/-- What the body leaves, joined. -/
theorem end_body (c : Dev nD) : bodyOut c ⊢ (Φ₁ c : sProp 𝕄) := by
  unfold Φ₁ bodyOut sndDone rcvDone
  rw [unscopedSems0_eq, bigSep_bool (fun x : Bool × Fin 7 => (semVal (cell c (some x)) 0 : sProp 𝕄))]
  simp only [bigSep_sep']
  iintro ⟨HB, ⟨Hp, HS⟩, ⟨Hc, HV⟩, Hown, Hx⟩
  isplitl [HB]; · iexact HB
  isplitl [HS HV]
  · isplitl [HS]; · iexact HS
    iexact HV
  isplitl [Hp Hown]
  · iapply (join_rows (F := F) c)
    isplitl [Hown]; · iexact Hown
    iexact Hp
  isplitl [Hc]
  · iapply (join_slots (F := F) c); iexact Hc
  iexact Hx

/-! ## The pipeline's data, and the body's obligation -/

def dats (_ : Fin 1) (c : Dev nD) : Dat τ (Elt F) Unit ℕ UU ℕ cfg0 c where
  A w := V m c (Pipeline.arrRef spec0 w)
  after w _ := match w with
    | ⟨0, _⟩ => X0 m c
    | ⟨1, _⟩ => X1 m c
    | ⟨2, _⟩ => X2 m c
    | ⟨3, _⟩ => X3 m c
    | ⟨4, _⟩ => X4 m c
    | ⟨5, _⟩ => outAt m c
  Φ t := match t with
    | ⟨0, _⟩ => Φ₀ m c
    | ⟨_ + 1, _⟩ => Φ₁ c
  q _ := fullShare
  owed t := match t with
    | ⟨0, _⟩ => owed0 c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem before_0 (c : Dev nD) (d) : (dats m 0 c).before (0 : Fin 6) t0_0 d = X0 m c := by unfold Dat.before; rw [if_pos (fetch0_0 _)]; rfl
theorem before_1 (c : Dev nD) (d) : (dats m 0 c).before (1 : Fin 6) t0_0 d = X1 m c := by unfold Dat.before; rw [if_pos (fetch0_1 _)]; rfl
theorem before_2 (c : Dev nD) (d) : (dats m 0 c).before (2 : Fin 6) t0_0 d = X2 m c := by unfold Dat.before; rw [if_pos (fetch0_2 _)]; rfl
theorem before_3 (c : Dev nD) (d) : (dats m 0 c).before (3 : Fin 6) t0_0 d = X3 m c := by unfold Dat.before; rw [if_pos (fetch0_3 _)]; rfl
theorem before_4 (c : Dev nD) (d) : (dats m 0 c).before (4 : Fin 6) t0_0 d = X4 m c := by unfold Dat.before; rw [if_pos (fetch0_4 _)]; rfl

/-- The body's precondition and postcondition, window by window. -/
def bodyPre (c : Dev nD) : sProp 𝕄 :=
  iprop(Φ₀ m c ∗ (dats m 0 c).owesAt () (t0_0 : Fin cfg0.N).castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () (t0_0 : Fin cfg0.N).succ
    ∗ stg c cc0_stg0_0 (X0 m c) ∗ stg c cc0_stg1_0 (X1 m c) ∗ stg c cc0_stg2_0 (X2 m c)
    ∗ stg c cc0_stg3_0 (X3 m c) ∗ stg c cc0_stg4_0 (X4 m c) ∗ stg c cc0_stg5_0 (outAt m c))

set_option maxRecDepth 8000 in
set_option maxHeartbeats 1000000 in
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole]
  show bodyPre m c ⊢ WP c (cc0_body xM (Memref.isWhole_whole _) rM (Memref.isWhole_whole _) iM (Memref.isWhole_whole _) eM (Memref.isWhole_whole _)
          wM (Memref.isWhole_whole _) oM (Memref.isWhole_whole _) pM (Memref.isWhole_whole _) cM (Memref.isWhole_whole _)
          xwM (Memref.isWhole_whole _) cc0_scratch3 cc0_scratch4) (fun _ => bodyPost m c)
  unfold bodyPre
  simp only [before_0, before_1, before_2, before_3, before_4]
  iintro ⟨HΦ, ⟨%W, -, HO⟩, ⟨%_, H0⟩, ⟨%_, H1⟩, ⟨%_, H2⟩, ⟨%_, H3⟩, ⟨%_, H4⟩, ⟨%_, ⟨%f5, -, H5⟩⟩⟩
  ihave HΦ := (start_body m c) $$ HΦ
  icases HΦ with ⟨%K, HΦ⟩
  iapply (sound_body m K c fun _ => bodyPost m c)
  isplitl
  · isplitl [HΦ]; · iexact HΦ
    isplitl [HO]; · unfold debt; iexists W; iexact HO
    isplitl [H0]; · iexact H0
    isplitl [H1]; · iexact H1
    isplitl [H2]; · iexact H2
    isplitl [H3]; · iexact H3
    isplitl [H4]; · iexact H4
    iexists f5; iexact H5
  · unfold bodyPost debt
    iintro ⟨Hb, ⟨%W', HO⟩, Hrest⟩
    isplitl [Hb]; · iapply (end_body c); iexact Hb
    isplitl [HO]
    · iexists W'; isplitr; · ipureintro; exact fun _ _ => Or.inl trivial
      iexact HO
    iexact Hrest

end Cert.Moe

end
-- ==== Proof.Run.lean ====
/- The run of the whole program on the eight devices: the ghost state allocated and dealt out, the launch's credit,
   and every execution's end. -/
module

public import proofs.«01_k».proof.Proof.Launch
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- The semaphores of the kernel's own: seven send and seven receive ones. -/
abbrev osem (x : Bool × Fin 7) : SemLoc sig := csem (some x)

theorem ownSemFacts : Pipeline.OwnSemFacts cfg0.spec osem where
  isScoped := by decide
  inj := fun a b h => Option.some.inj (csem_inj h)
  disj := by decide

theorem share_eq (c : Dev nD) (w : Fin cfg0.W) : (dats m 0 c).share w = fullShare := by unfold Dat.share; split <;> rfl

theorem cellOn_injective : Function.Injective (fun p : Dev nD × Cell => cell p.1 p.2) := fun p q h =>
  Prod.ext (cell_inj.mp h).1 (cell_inj.mp h).2
def exchCells : Finset (GSem nD τ sig) := Finset.univ.map ⟨fun p : Dev nD × Cell => cell p.1 p.2, cellOn_injective⟩

/-- A duty's token: of the barrier's seven duties number `s`; of a send or receive cell, its one duty. -/
abbrev tokOf (p : Dev nD × (Option Bool × Fin 7)) : GSem nD τ sig × ℕ × Fin 7 :=
  match p.2 with
  | (none, s) => (cell p.1 bar, 0, s)
  | (some b, s) => (cell p.1 (some (b, s)), 0, 0)
theorem tokOf_injective : Function.Injective tokOf := by
  rintro ⟨c, _ | b, s⟩ ⟨d, _ | b', s'⟩ h
  · have h1 := cell_inj.mp (congrArg Prod.fst h)
    have h2 : s = s' := congrArg (fun x : GSem nD τ sig × ℕ × Fin 7 => x.2.2) h
    exact Prod.ext h1.1 (by rw [h2])
  · have h1 := (cell_inj.mp (congrArg Prod.fst h)).2; cases h1
  · have h1 := (cell_inj.mp (congrArg Prod.fst h)).2; cases h1
  · have h1 := cell_inj.mp (congrArg Prod.fst h)
    have h2 := Option.some.inj h1.2
    have h3 : b = b' := congrArg Prod.fst h2
    have h4 : s = s' := congrArg Prod.snd h2
    exact Prod.ext h1.1 (by rw [h3, h4])
def exchToks : Finset (GSem nD τ sig × ℕ × Fin 7) := Finset.univ.map ⟨tokOf, tokOf_injective⟩

def u₀ : UU := (initOf (Pipeline.cells cfgs cellOf_inj) (Pipeline.launchToks cfgs cellOf_inj), initOf exchCells exchToks)

/-- What the launch deals device `c`: its cells' states and positions and its cells' duty tokens. -/
def G (c : Dev nD) : sProp 𝕄 :=
  iprop((bigSep Finset.univ fun k : Cell => roundState ER (sched m) (cell c k) 0)
    ∗ ((bigSep Finset.univ fun k : Cell => atPos ER (cell c k) 0 ∅ 0) ∗ bigSep Finset.univ fun k : Cell => reached ER (cell c k) 0) ∗ toks c)

theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Cell => Φ (cell c k) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod]
    refine bigSep_congr fun c _ => ?_
    unfold toks
    rw [bigSep_univ_prod, bigSep_option]
    exact congrArg _ (bigSep_univ_eq_bigSepL [false, true] (by decide) (by decide) _)
  iintro HX
  imod (Rounds.fund ER (sched m) exchCells exchToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own semaphores and the barrier are the fifteen cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cell c k) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (cell c k)))
          ∗ ((bigSep Finset.univ fun k : Cell => atPos ER (cell c k) 0 ∅ 0) ∗ bigSep Finset.univ fun k : Cell => reached ER (cell c k) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (cell c k) 0) ∗ bigSep Finset.univ fun k : Cell => roundState ER (sched m) (cell c k) 0)
      ⊢ (|={Set.univ}=> bigSep Finset.univ fun k : Cell => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_swap (f : Dev nD → Fin 7 → sProp 𝕄) :
    (bigSep Finset.univ fun c : Dev nD => bigSep Finset.univ fun s => f c s)
      = bigSep Finset.univ fun s => bigSep Finset.univ fun c : Dev nD => f c s := by
  rw [← bigSep_univ_prod fun p : Dev nD × Fin 7 => f p.1 p.2, bigSep_univ_equiv (Equiv.prodComm (Fin 7) (Dev nD)), bigSep_univ_prod]
  rfl

omit [FloatOps F] in
/-- A family over devices and exchange numbers, read at each number's peer and, for the barriers, the answering number. -/
theorem deal (f : Dev nD → Fin 7 → sProp 𝕄) :
    (bigSep Finset.univ fun c : Dev nD => bigSep Finset.univ fun s => f c s)
      = bigSep Finset.univ fun c : Dev nD => bigSep Finset.univ fun s => f (peer c s) s := by
  rw [bigSep_swap, bigSep_congr (s := Finset.univ) fun s _ => bigSep_univ_equiv (ring s) fun c => f c s,
    bigSep_swap fun c s => f (peer c s) s]
  rfl

omit [FloatOps F] in
/-- The tokens go to the devices that pay with them. -/
theorem toks_around : (bigSep Finset.univ fun c : Dev nD => (toks c : sProp 𝕄)) ⊢ bigSep Finset.univ fun c : Dev nD => payToks c := by
  unfold toks payToks
  simp only [bigSep_sep']
  rw [bigSep_congr (s := Finset.univ) fun (c : Dev nD) _ => bigSep_univ_equiv oppEquiv fun s => (dutyTok ER (cell c bar) 0 s : sProp 𝕄),
    deal fun c s => dutyTok ER (cell c bar) 0 (oppEquiv s), deal fun c s => dutyTok ER (cell c (rcv s)) 0 0]
  exact Entails.of_eq rfl

theorem regroup :
    (bigSep Finset.univ fun c : Dev nD => iprop((bigSep Finset.univ fun k : Cell => iprop(∃ κ : ℕ, cellInv ER (sched m) κ (cell c k)))
          ∗ ((bigSep Finset.univ fun k : Cell => atPos ER (cell c k) 0 ∅ 0) ∗ bigSep Finset.univ fun k : Cell => reached ER (cell c k) 0) ∗ toks c) : sProp 𝕄)
      ⊢ bigSep Finset.univ (held m) := by
  simp only [bigSep_sep']
  rw [← bigSep_univ_prod (fun p : Dev nD × Cell => iprop(∃ κ : ℕ, cellInv ER (sched m) κ (cell p.1 p.2))),
    ← bigSep_univ_prod (fun p : Dev nD × Cell => (reached ER (cell p.1 p.2) 0 : sProp 𝕄))]
  iintro ⟨HI, ⟨Hat, #HR⟩, Htok⟩
  ihave HK := (BI.bigSep_exists_pi Finset.univ (fun (p : Dev nD × Cell) (κ : ℕ) => (cellInv ER (sched m) κ (cell p.1 p.2) : sProp 𝕄))) $$ HI
  icases HK with ⟨%K, #HI⟩
  ihave Htk := (toks_around (F := F)) $$ Htok
  have hone (c : Dev nD) : iprop(records m K ∗ linear c) ⊢ held m c := by
    unfold held; iintro ⟨#H, Hl⟩; iexists K
    isplitr; · iexact H
    iexact Hl
  have hall : iprop(records m K ∗ bigSep Finset.univ fun c : Dev nD => linear c) ⊢ bigSep Finset.univ (held m) :=
    (sep_mono_left (BI.bigSep_of_persistent (Finset.univ : Finset (Dev nD)) (records m K))).trans
      (by rw [← bigSep_sep']; exact bigSep_mono fun c _ => hone c)
  iapply hall
  isplitr
  · unfold records; isplitl; · iexact HI
    iexact HR
  · unfold linear; simp only [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (held m) :=
  ((bigSep_mono fun c _ => core_alloc m c).trans (bigSep_fupd _ _)).trans (BI.fupd_mono (regroup m))

/-! ## The launch's credit -/

/-- Of the blocks owed, those to device `c`'s receive cell `s`; -/
theorem oweBlk_rcv (d c : Dev nD) (s : Fin 7) : ∀ l : List (Fin 7),
    oweBlk d l (cell c (rcv s)) () = if d = src c s then l.count s * N else 0
  | [] => by
    show (0 : ℕ) = _
    rw [List.count_nil, Nat.zero_mul, ite_self]
  | t :: l => by
    rw [oweBlk, Pi.add_apply, Finsupp.add_apply, oweBlk_rcv d c s l, tallyAt_apply]
    by_cases ht : t = s
    · subst ht
      by_cases hd : d = src c t
      · rw [if_pos hd, if_pos ⟨by rw [hd, peer_src], rfl⟩, if_pos hd, List.count_cons_self, Nat.succ_mul]
      · rw [if_neg hd, if_neg fun h => hd ((peer_eq_iff t d c).mp (cell_inj.mp h.1).1.symm), if_neg hd]
    · have hne : ¬(cell c (rcv s) = cell (peer d t) (rcv t) ∧ () = ()) := fun h =>
        ht (congrArg Prod.snd (Option.some.inj (cell_inj.mp h.1).2)).symm
      rw [if_neg hne, Nat.add_zero, List.count_cons_of_ne ht]
/-- no signal is owed there; -/
theorem oweSig_rcv (d c : Dev nD) (s : Fin 7) : ∀ l : List (Fin 7), oweSig d l (cell c (rcv s)) () = oweBlk d all7 (cell c (rcv s)) ()
  | [] => rfl
  | t :: l => by
    rw [oweSig, Pi.add_apply, Finsupp.add_apply, oweSig_rcv d c s l, tallyAt_apply, if_neg, Nat.add_zero]
    intro h; have := (cell_inj.mp h.1).2; cases this
/-- no block to a barrier; -/
theorem oweBlk_bar (d c : Dev nD) : ∀ l : List (Fin 7), oweBlk d l (cell c bar) () = 0
  | [] => rfl
  | t :: l => by
    rw [oweBlk, Pi.add_apply, Finsupp.add_apply, oweBlk_bar d c l, tallyAt_apply, if_neg]
    intro h; have := (cell_inj.mp h.1).2; cases this
/-- and to a barrier one unit in all by each exchange number. -/
theorem oweSig_bar (c : Dev nD) : ∀ l : List (Fin 7), ∑ d : Dev nD, oweSig d l (cell c bar) () = l.length
  | [] => Finset.sum_eq_zero fun d _ => oweBlk_bar d c all7
  | t :: l => by
    have h (d : Dev nD) : oweSig d (t :: l) (cell c bar) () = oweSig d l (cell c bar) () + if d = src c t then 1 else 0 := by
      rw [oweSig, Pi.add_apply, Finsupp.add_apply, tallyAt_apply]
      by_cases hd : d = src c t
      · rw [if_pos ⟨by rw [hd, peer_src], rfl⟩, if_pos hd]
      · rw [if_neg fun h => hd ((peer_eq_iff t d c).mp (cell_inj.mp h.1).1.symm), if_neg hd]
    rw [Finset.sum_congr rfl fun d _ => h d, Finset.sum_add_distrib, oweSig_bar c l, Finset.sum_ite_eq' Finset.univ (src c t) fun _ => 1,
      if_pos (Finset.mem_univ _), List.length_cons]

theorem launch_bar (c : Dev nD) :
    tallyOn (cell c bar) (launchCredit (Pipeline.owing owed0) 0 (cell c bar)) = (tallyAt (cell c bar) () 7 : CellTallies nD τ sig Unit) := by
  unfold tallyAt; refine congrArg _ (Finsupp.ext fun u => ?_); cases u
  rw [Pipeline.launchCredit_owing, Finsupp.single_eq_same]
  exact oweSig_bar c all7

theorem launch_rcv (c : Dev nD) (s : Fin 7) :
    tallyOn (cell c (rcv s)) (launchCredit (Pipeline.owing owed0) 0 (cell c (rcv s))) = (tallyAt (cell c (rcv s)) () N : CellTallies nD τ sig Unit) := by
  unfold tallyAt; refine congrArg _ (Finsupp.ext fun u => ?_); cases u
  have hcount : all7.count s = 1 := by revert s; decide
  have h (d : Dev nD) : owed0 d (cell c (rcv s)) () = if d = src c s then N else 0 := by
    unfold owed0; rw [oweSig_rcv, oweBlk_rcv, hcount, Nat.one_mul]
  rw [Pipeline.launchCredit_owing, Finsupp.single_eq_same, Finset.sum_congr rfl fun d _ => h d, Finset.sum_ite_eq' Finset.univ (src c s) fun _ => N,
    if_pos (Finset.mem_univ _)]

omit [FloatOps F] in
theorem creds (c : Dev nD) :
    (Pipeline.launchCred owed0 c : sProp 𝕄)
      ⊢ iprop(cred (tallyAt (cell c bar) () 7) ∗ bigSep Finset.univ fun s => cred (tallyAt (cell c (rcv s)) () N)) := by
  have hinj : Set.InjOn (fun x : Option (Fin 7) => csem (x.elim bar rcv)) (Finset.univ : Finset (Option (Fin 7))) := by
    intro a _ b _ h
    have h' := csem_inj h
    cases a <;> cases b
    · rfl
    · cases h'
    · cases h'
    · exact congrArg some (congrArg Prod.snd (Option.some.inj h'))
  unfold Pipeline.launchCred
  refine (bigSep_subset (Finset.subset_univ ((Finset.univ : Finset (Option (Fin 7))).image fun x => csem (x.elim bar rcv)))).trans ?_
  rw [bigSep_image_of_injOn hinj, bigSep_option]
  exact BI.sep_mono (Entails.of_eq (congrArg cred (launch_bar c))) (Entails.of_eq (bigSep_congr fun s _ => congrArg cred (launch_rcv c s)))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ held m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨HU, HS, Hr⟩
  isplitl [HU]; · iexact HU
  isplitl [HS]; · iexact HS
  iexact Hr

theorem stage_low (c : Dev nD) (w : Fin cfg0.W) (s : Fin (cfg0.win w).nbuf) : lv ((c : Thread nD τ), .dma ((cfg0.win w).sem s)) () = 0 := by
  have h : which (.dma ((cfg0.win w).sem s)) = none := by
    refine List.find?_eq_none.mpr fun k _ hk => ?_
    have hk' : csem k = .dma ((cfg0.win w).sem s) := by simpa using hk
    cases k with
    | none => cases hk'
    | some x => exact ownSemFacts.disj x w s hk'
  unfold lv; rw [h]

theorem waits (c : Dev nD) : (levAts L lv : sProp 𝕄) ⊢ Pipeline.cellsWaits cfgs (dats m) () 0 c :=
  Pipeline.cellsWaits_intro cfgs (dats m) () 0 c fun w s t =>
    mayWait_low c _ (stage_low c w s) _ (by
      rcases t with ⟨_ | _, ht⟩
      · exact Or.inl rfl
      · exact Or.inr rfl)

/-! ## The run -/

/-- Every array of every device as the windows leave it. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with all counters at zero every weakly fair execution ends, with the arrays as the windows leave
    them and every counter at zero. -/
theorem run_arrays : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := G m) (G' := held m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Ends.lean ====
/- What the arrays hold when the program ends, and the three frame claims. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Moe

open Cert.KernelIdeal Cert.KernelIdeal.Gen
open Idealize.ShloMosaic Idealize.ShloMosaic.TcCoe
open Idealize.SL Idealize.SL.Sem
open Idealize.ShloMosaic.ValueIdx
open Idealize.ShloMosaic.Pipeline (Dat Cfg Window)

variable {F : FTy → Type} [FloatOps F]

variable (m : (ℓ : Loc nD τ sig) → Buf (Elt F) ℓ) (ρ : Dev nD → PrngReg)

/-- The result window's one block is the whole array, so at the end the array holds what the body left. -/
theorem out_array (c : Dev nD) : (dats m 0 c).arrAt (5 : Fin 6) cfg0.N = outAt m c := by
  have h : (win0_5.blk t0_0).view.read (Elt F) ((dats m 0 c).arrAt (5 : Fin 6) cfg0.N) = outAt m c := by
    rw [show cfg0.N = (t0_0 : Fin cfg0.N).val + 1 from rfl, (dats m 0 c).arrAt_succ (5 : Fin 6) t0_0, if_pos (flush0_5 t0_0)]
    exact View.read_write_univ _ _
  refine Eq.trans (funext fun i => ?_) h
  rw [View.read_apply]
  refine congrArg ((dats m 0 c).arrAt (5 : Fin 6) cfg0.N) (Eq.symm ?_)
  funext a
  refine Fin.ext ((Window.rect_emb_val_off win0_5 t0_0 i a).trans ?_)
  fin_cases a
  · show 0 * 128 + (i 0 : ℕ) = i 0; omega
  · show 0 * 512 + (i 1 : ℕ) = i 1; omega

/-- From any memory with all counters at zero every weakly fair execution ends, with `outAt` in the result array, the
    arguments unchanged and every counter at zero. -/
theorem run_main : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨(h.1 c 5).trans (out_array m c),
      (h.1 c 0).trans ((dats m 0 c).arrAt_in 0 rfl _),
      (h.1 c 1).trans ((dats m 0 c).arrAt_in 1 rfl _),
      (h.1 c 2).trans ((dats m 0 c).arrAt_in 2 rfl _),
      (h.1 c 3).trans ((dats m 0 c).arrAt_in 3 rfl _),
      (h.1 c 4).trans ((dats m 0 c).arrAt_in 4 rfl _)⟩, h.2⟩) (run_arrays m ρ)

/-- The kernel over bit patterns has the text of the kernel over extended reals: the same bodies, -/
theorem bodies_same : Cert.Kernel.defs₀ (F := Bits) = Cert.KernelIdeal.defs₀ (F := Bits) := by
  unfold Cert.Kernel.defs₀ Cert.KernelIdeal.defs₀
  refine congrArg _ ?_
  funext l a
  match l, a with
  | ⟨0, _⟩, (_, _) => rfl
/-- and the same table of bodies and pipelines. -/
theorem tables_same : Cert.Kernel.defs (F := Bits) = Cert.KernelIdeal.defs (F := Bits) := by
  unfold Cert.Kernel.defs Cert.KernelIdeal.defs
  exact congrArg (fun x => Pipeline.defs Cert.KernelIdeal.pcfgs x) bodies_same

/-- So its frame is an instance of the same run. -/
theorem frame_kernel : Cert.quiescent_Kernel := by
  intro m ρ _
  rw [tables_same]
  exact (θ_run Cert.KernelIdeal.defs _ _).mono (fun _ h => ⟨fun c => (h.1 c).2, h.2⟩) (run_main (F := Bits) m ρ)

/-- The kernel over extended reals ends with its arguments unchanged and every counter at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference ends with its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each input window's one block is the whole array. -/
theorem X0_eq (c : Dev nD) : X0 m c = m ((c : Thread nD τ).loc main_arg0) := by
  funext i
  refine congrArg (m ((c : Thread nD τ).loc main_arg0)) ?_
  funext a
  refine Fin.ext ((Window.rect_emb_val_off win0_0 t0_0 i a).trans ?_)
  fin_cases a
  · show 0 * 1024 + (i 0 : ℕ) = i 0; omega
  · show 0 * 256 + (i 1 : ℕ) = i 1; omega
theorem X1_eq (c : Dev nD) : X1 m c = m ((c : Thread nD τ).loc main_arg1) := by
  funext i
  refine congrArg (m ((c : Thread nD τ).loc main_arg1)) ?_
  funext a
  refine Fin.ext ((Window.rect_emb_val_off win0_1 t0_0 i a).trans ?_)
  fin_cases a
  · show 0 * 256 + (i 0 : ℕ) = i 0; omega
  · show 0 * 32 + (i 1 : ℕ) = i 1; omega
theorem X2_eq (c : Dev nD) : X2 m c = m ((c : Thread nD τ).loc main_arg2) := by
  funext i
  refine congrArg (m ((c : Thread nD τ).loc main_arg2)) ?_
  funext a
  refine Fin.ext ((Window.rect_emb_val_off win0_2 t0_0 i a).trans ?_)
  fin_cases a
  · show 0 * 1024 + (i 0 : ℕ) = i 0; omega
  · show 0 * 1 + (i 1 : ℕ) = i 1; omega
theorem X3_eq (c : Dev nD) : X3 m c = m ((c : Thread nD τ).loc main_arg3) := by
  funext i
  refine congrArg (m ((c : Thread nD τ).loc main_arg3)) ?_
  funext a
  refine Fin.ext ((Window.rect_emb_val_off win0_3 t0_0 i a).trans ?_)
  fin_cases a
  · show 0 * 4 + (i 0 : ℕ) = i 0; omega
  · show 0 * 256 + (i 1 : ℕ) = i 1; omega
  · show 0 * 512 + (i 2 : ℕ) = i 2; omega
theorem X4_eq (c : Dev nD) : X4 m c = m ((c : Thread nD τ).loc main_arg4) := by
  funext i
  refine congrArg (m ((c : Thread nD τ).loc main_arg4)) ?_
  funext a
  refine Fin.ext ((Window.rect_emb_val_off win0_4 t0_0 i a).trans ?_)
  fin_cases a
  · show 0 * 256 + (i 0 : ℕ) = i 0; omega
  · show 0 * 512 + (i 1 : ℕ) = i 1; omega

end Cert.Moe

end
-- ==== Proof.Gate.lean ====
/- The arithmetic of the routing gate over extended reals: a row's softmax at one expert, and what a real gate ≥ 0 lets a sum do. -/
module

public import Idealize.ShloMosaic.PureOps.Ideal.Laws
public import Idealize.ShloMosaic.Lib.IdealHost

@[expose] public section

noncomputable section

namespace Cert.Moe

open Idealize.ShloMosaic

/-- The largest score of a row, from `⊥`. -/
def top (s : Fin 32 → EReal) : EReal := (Finset.univ : Finset (Fin 32)).fold max ⊥ s
/-- The row's softmax at expert `e`. -/
def prob (s : Fin 32 → EReal) (e : Fin 32) : EReal :=
  Ideal.div (Ideal.exp (s e - top s)) (∑ e', Ideal.exp (s e' - top s))

/-- One where two words are equal, zero elsewhere. -/
def bit (a b : BitVec 32) : EReal := if a = b then 1 else 0

/-- The softmax at the expert that the word `e` names, zero if it names none. -/
def gateOf (s : Fin 32 → EReal) (e : BitVec 32) : EReal := ∑ n : Fin 32, prob s n * bit e (BitVec.ofNat 32 n.val)

/-- A finite sum of reals is the sum, as reals. -/
theorem coe_sum {ι : Type} (A : Finset ι) (r : ι → ℝ) : ∑ i ∈ A, ((r i : ℝ) : EReal) = ((∑ i ∈ A, r i : ℝ) : EReal) := by
  classical
  induction A using Finset.induction_on with
  | empty => simp
  | insert a A h ih => rw [Finset.sum_insert h, Finset.sum_insert h, ih, EReal.coe_add]

/-- The largest of real scores is one of them. -/
theorem top_real (r : Fin 32 → ℝ) : ∃ M : ℝ, top (fun e => (r e : EReal)) = (M : EReal) := by
  obtain ⟨e, _, h⟩ := Finset.exists_mem_eq_sup (Finset.univ : Finset (Fin 32)) Finset.univ_nonempty (fun e => (r e : EReal))
  exact ⟨r e, h⟩

/-- The softmax of real scores is real and not negative. -/
theorem prob_real (s : Fin 32 → EReal) (hs : ∀ e, ∃ r : ℝ, s e = (r : EReal)) (e : Fin 32) : ∃ g : ℝ, 0 ≤ g ∧ prob s e = (g : EReal) := by
  choose r hr using hs
  obtain rfl : s = fun e => (r e : EReal) := funext hr
  obtain ⟨M, hM⟩ := top_real r
  have hexp : ∀ n, Ideal.exp ((r n : EReal) - top (fun e => (r e : EReal))) = ((Real.exp (r n - M) : ℝ) : EReal) := fun n => by
    rw [hM, ← EReal.coe_sub, Ideal.exp_coe]
  have hpos : 0 < ∑ n : Fin 32, Real.exp (r n - M) := Finset.sum_pos (fun n _ => Real.exp_pos _) Finset.univ_nonempty
  refine ⟨Real.exp (r e - M) * (1 / ∑ n : Fin 32, Real.exp (r n - M)), by positivity, ?_⟩
  unfold prob
  simp only [hexp]
  rw [coe_sum, Ideal.div_coe hpos.ne', ← EReal.coe_mul]

/-- A word that names expert `n` picks the softmax at `n`; -/
theorem gateOf_expert (s : Fin 32 → EReal) (n : Fin 32) : gateOf s (BitVec.ofNat 32 n.val) = prob s n := by
  unfold gateOf
  rw [Finset.sum_eq_single n]
  · rw [bit, if_pos rfl, mul_one]
  · intro n' _ hne
    rw [bit, if_neg, mul_zero]
    intro h
    refine hne (Fin.ext ?_)
    have := congrArg BitVec.toNat h
    simp only [BitVec.toNat_ofNat] at this
    omega
  · exact fun h => absurd (Finset.mem_univ n) h
/-- a word that names none picks zero. -/
theorem gateOf_none (s : Fin 32 → EReal) (e : BitVec 32) (h : ∀ n : Fin 32, e ≠ BitVec.ofNat 32 n.val) : gateOf s e = 0 :=
  Finset.sum_eq_zero fun n _ => by rw [bit, if_neg (h n), mul_zero]

/-- A real number ≥ 0 goes into a sum of any extended reals. -/
theorem real_mul_sum {ι : Type} (A : Finset ι) (g : ℝ) (hg : 0 ≤ g) (f : ι → EReal) : (g : EReal) * ∑ i ∈ A, f i = ∑ i ∈ A, (g : EReal) * f i := by
  classical
  induction A using Finset.induction_on with
  | empty => simp
  | insert a A h ih => rw [Finset.sum_insert h, Finset.sum_insert h, EReal.left_distrib_of_nonneg_of_ne_top (EReal.coe_nonneg.2 hg) (EReal.coe_ne_top g), ih]

/-- One expert's term of a row: gated and masked input times the expert's weights. -/
def term (g : EReal) (b : EReal) (x w : Fin 256 → EReal) : EReal := ∑ k, (g * b * x k) * w k

/-- Masked out it is zero, -/
theorem term_zero (g : EReal) (x w : Fin 256 → EReal) : term g 0 x w = 0 :=
  Finset.sum_eq_zero fun k _ => by rw [mul_zero, zero_mul, zero_mul]
/-- else the gate times the product. -/
theorem term_one (g : ℝ) (hg : 0 ≤ g) (x w : Fin 256 → EReal) : term (g : EReal) 1 x w = (g : EReal) * ∑ k, x k * w k := by
  rw [real_mul_sum _ g hg]
  exact Finset.sum_congr rfl fun k _ => by rw [mul_one, mul_assoc]

/-- Over all devices' experts at most one term stays: the one of the expert that the row is routed to. -/
theorem terms_expert (s : Fin 32 → EReal) (hs : ∀ e, ∃ r : ℝ, s e = (r : EReal)) (n : Fin 32) (x : Fin 256 → EReal) (W : Fin 32 → Fin 256 → EReal) :
    ∑ n' : Fin 32, term (gateOf s (BitVec.ofNat 32 n.val)) (bit (BitVec.ofNat 32 n.val) (BitVec.ofNat 32 n'.val)) x (W n')
      = prob s n * ∑ k, x k * W n k := by
  obtain ⟨g, hg, hp⟩ := prob_real s hs n
  rw [gateOf_expert, hp, Finset.sum_eq_single n]
  · rw [bit, if_pos rfl, term_one g hg]
  · intro n' _ hne
    rw [bit, if_neg, term_zero]
    intro h
    refine hne (Fin.ext ?_)
    have := congrArg BitVec.toNat h
    simp only [BitVec.toNat_ofNat] at this
    omega
  · exact fun h => absurd (Finset.mem_univ n) h
/-- And none if the row is routed to no expert. -/
theorem terms_none (s : Fin 32 → EReal) (e : BitVec 32) (h : ∀ n : Fin 32, e ≠ BitVec.ofNat 32 n.val) (x : Fin 256 → EReal) (W : Fin 32 → Fin 256 → EReal) :
    ∑ n' : Fin 32, term (gateOf s e) (bit e (BitVec.ofNat 32 n'.val)) x (W n') = 0 :=
  Finset.sum_eq_zero fun n' _ => by rw [bit, if_neg (h n'), term_zero]

end Cert.Moe

end
-- ==== Proof.KernelValue.lean ====
/- The kernel's value over extended reals, entry by entry. -/
module

public import proofs.«01_k».proof.Proof.Ends
public import proofs.«01_k».proof.Proof.Gate
public import Idealize.ShloMosaic.Lib.MatmulPlain
public import Idealize.ShloMosaic.Lib.ValueLayout
public import Idealize.ShloMosaic.Lib.ValueLayoutCasts

@[expose] public section

noncomputable section

namespace Cert.Moe

open Cert.KernelIdeal Cert.KernelIdeal.Gen
open Idealize.ShloMosaic Idealize.ShloMosaic.TcCoe
open Idealize.SL Idealize.SL.Sem
open Idealize.ShloMosaic.ValueIdx

/-- A column laid along every one of `b` columns reads, at `(p, c)`, the column at `p`. -/
theorem column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's sum as a column, -/
theorem rowSum_apply (x : FVec Ideal S1024x32 .f32) (i : Fin 1024) :
    multiReduction .add [1] S1024 x 0x00000000#32 reduces_S1024x32_S1024 (.inl rfl) rfl (ix1 i) = ∑ e : Fin 32, x (ix2 i e) := by
  refine (Ideal.multiReduction_add_single x _ reduces_S1024x32_S1024 (.inl rfl) rfl (ix1 i)).trans ?_
  refine Finset.sum_congr rfl fun e _ => congrArg x ?_
  funext a; apply Fin.ext
  match a with
  | ⟨0, _⟩ => rfl
  | ⟨1, _⟩ => rfl
/-- and a row's maximum. -/
theorem rowMax_apply (x : FVec Ideal S1024x32 .f32) (i : Fin 1024) :
    multiReduction .maximumf [1] S1024 x 0xFF800000#32 reduces_S1024x32_S1024 (.inl rfl) rfl (ix1 i) = top fun e => x (ix2 i e) := by
  refine (Ideal.multiReduction_maximumf_single x _ reduces_S1024x32_S1024 (.inl rfl) rfl (ix1 i)).trans ?_
  have hb : FloatOps.ofBits (F := Ideal) .f32 0xFF800000#32 = (⊥ : EReal) := by
    show Ideal.ofBits .f32 0xFF800000#32 = ⊥
    simp [Ideal.ofBits, Ideal.ieee]
  show (Finset.univ : Finset (Fin 32)).fold max (FloatOps.ofBits (F := Ideal) .f32 0xFF800000#32) _ = _
  rw [hb]
  refine congrArg (fun f => (Finset.univ : Finset (Fin 32)).fold max (⊥ : EReal) f) (funext fun e => congrArg x ?_)
  funext a; apply Fin.ext
  match a with
  | ⟨0, _⟩ => rfl
  | ⟨1, _⟩ => rfl

/-- A comparison of two words for equality, widened and converted, is one or zero. -/
theorem bit_apply (a b : BitVec 32) : FloatOps.sitofp (F := Ideal) .f32 ((IntOp.cmpi .eq a b).setWidth 32) = bit a b := by
  show (((((IntOp.cmpi .eq a b).setWidth 32).toInt : ℤ) : ℝ) : EReal) = bit a b
  unfold bit
  by_cases h : a = b
  · rw [if_pos h, (IntOp.cmpi_eq (x := a) (y := b)).2 h]; norm_num
  · rw [if_neg h, IntOp.cmpi]
    rw [show (a == b) = false from beq_eq_false_iff_ne.2 h]
    norm_num

/-- The scores of row `i`. -/
def score (x : FVec Ideal S1024x256 .f32) (w : FVec Ideal S256x32 .f32) (i : Fin 1024) (e : Fin 32) : EReal :=
  ∑ k : Fin 256, x (ix2 i k) * w (ix2 k e)

/-- The router's product. -/
theorem scores_apply (x : FVec Ideal S1024x256 .f32) (w : FVec Ideal S256x32 .f32) (i : Fin 1024) (e : Fin 32) :
    matmul dot_S1024x256_S256x32_S1024x32_1_0_0_1_n_n none x w (constant S1024x32 .f32 0x00000000#32) (ix2 i e) = score x w i e := by
  refine (Ideal.matmul_plain_apply (M := 1024) (K := 256) (N := 32) none x w _ i e).trans ?_
  show Ideal.ofBits .f32 0x00000000#32 + _ = _
  rw [Ideal.ofBits_zero_f32, zero_add]; rfl

/-- An expert's product. -/
theorem product_apply (x : FVec Ideal S128x256 .f32) (w : FVec Ideal S256x512 .f32) (r : Fin 128) (h : Fin 512) :
    matmul dot_S128x256_S256x512_S128x512_1_0_0_1_n_n none x w (constant S128x512 .f32 0x00000000#32) (ix2 r h)
      = ∑ k : Fin 256, x (ix2 r k) * w (ix2 k h) := by
  refine (Ideal.matmul_plain_apply (M := 128) (K := 256) (N := 512) none x w _ r h).trans ?_
  show Ideal.ofBits .f32 0x00000000#32 + _ = _
  rw [Ideal.ofBits_zero_f32, zero_add]

/-- The gate of row `i`, masked by whether local expert `j` is the row's. -/
theorem pay2_apply (v : BitVec 32) (x : FVec Ideal S1024x256 .f32) (w : FVec Ideal S256x32 .f32) (idx : IVec S1024x1 32) (i : Fin 1024) (j : Fin 4) :
    k0_pay2 (F := Ideal) v x w idx (ix2 i j)
      = gateOf (score x w i) (idx (ix2 i (0 : Fin 1))) * bit (idx (ix2 i (0 : Fin 1))) (Scalar.muli v 4#32 + BitVec.ofNat 32 j.val) := by
  unfold k0_pay2 k0_pay1
  dsimp only
  simp only [shapeCast_self]
  refine congrArg₂ (· * ·) ?_ ?_
  · rw [column_apply, shapeCast_a_a1_apply, rowSum_apply]
    refine Finset.sum_congr rfl fun e _ => ?_
    refine congrArg₂ (· * ·) ?_ ?_
    · have hx : ∀ e', exp (subf (matmul dot_S1024x256_S256x32_S1024x32_1_0_0_1_n_n none x w (constant S1024x32 .f32 0x00000000#32))
          (broadcastTo S1024x32 (shapeCast S1024x1 (multiReduction .maximumf [1] S1024
            (matmul dot_S1024x256_S256x32_S1024x32_1_0_0_1_n_n none x w (constant S1024x32 .f32 0x00000000#32)) 0xFF800000#32 reduces_S1024x32_S1024 (.inl rfl) rfl)
            shapeCasts_S1024_S1024x1) broadcasts_S1024x1_S1024x32)) (ix2 i e') = Ideal.exp (score x w i e' - top (score x w i)) := fun e' => by
        show Ideal.exp (_ - _) = _
        rw [column_apply, shapeCast_a_a1_apply, rowMax_apply, scores_apply]
        simp only [scores_apply]
      show Ideal.div _ _ = _
      rw [hx, column_apply, shapeCast_a_a1_apply, rowSum_apply]
      simp only [hx]
      rfl
    · refine Eq.trans ?_ (bit_apply _ _)
      show FloatOps.sitofp (F := Ideal) .f32 ((IntOp.cmpi .eq (broadcastTo S1024x32 idx _ (ix2 i e)) (iota .tc S1024x32 32 [1] _ (ix2 i e))).setWidth 32) = _
      rw [column_apply, iota_single_apply]
  · refine Eq.trans ?_ (bit_apply _ _)
    show FloatOps.sitofp (F := Ideal) .f32 ((IntOp.cmpi .eq (broadcastTo S1024x4 idx _ (ix2 i j))
      (Scalar.muli v 4#32 + iota .tc S1024x4 32 [1] _ (ix2 i j))).setWidth 32) = _
    rw [column_apply, iota_single_apply]

/-- The kernel's number of local expert `j` of device `c`. -/
theorem expert_word (c : Dev nD) (j : Fin 4) : Scalar.muli (dw c) 4#32 + BitVec.ofNat 32 j.val = BitVec.ofNat 32 (4 * c.val + j.val) := by
  revert c j; decide

variable (m : (ℓ : Loc nD τ sig) → Buf (Elt Ideal) ℓ)

/-- The gate of row `i` on device `c`, masked to expert `n`. -/
def masked (c : Dev nD) (i : Fin 1024) (n : ℕ) : EReal :=
  gateOf (score (X0 m c) (X1 m c) i) (X2 m c (ix2 i (0 : Fin 1))) * bit (X2 m c (ix2 i (0 : Fin 1))) (BitVec.ofNat 32 n)

/-- The gated rows of a local expert. -/
theorem slab_apply (c : Dev nD) (j : Fin 4) (i : Fin 1024) (k : Fin 256) :
    xwSlab m c j (ix3 (0 : Fin 1) i k) = masked m c i (4 * c.val + j.val) * X0 m c (ix2 i k) := by
  have h := fun j => pay2_apply (dw c) (X0 m c) (X1 m c) (X2 m c) i j
  simp only [expert_word] at h
  match j with
  | 0 =>
    show k0_pay3 _ _ _ _ _ = _
    unfold k0_pay3 k0_pay1
    dsimp only
    rw [shapeCast_ab_1ab_apply]
    refine congrArg₂ (· * ·) ?_ (by rw [shapeCast_self])
    rw [column_apply, slice2_axis1_apply 0 _ _ i (0 : Fin 1) (0 : Fin 4) rfl]
    exact h 0
  | 1 =>
    show k0_pay5 (k0_pay4 _ _ _ _) _ = _
    unfold k0_pay5 k0_pay4 k0_pay1
    dsimp only
    rw [shapeCast_ab_1ab_apply]
    refine congrArg₂ (· * ·) ?_ (by rw [shapeCast_self])
    rw [column_apply, slice2_axis1_apply 1 _ _ i (0 : Fin 1) (1 : Fin 4) rfl]
    exact h 1
  | 2 =>
    show k0_pay6 _ _ _ = _
    unfold k0_pay6 k0_pay1
    dsimp only
    rw [shapeCast_ab_1ab_apply]
    refine congrArg₂ (· * ·) ?_ (by rw [shapeCast_self])
    rw [column_apply, slice2_axis1_apply 2 _ _ i (0 : Fin 1) (2 : Fin 4) rfl]
    exact h 2
  | 3 =>
    show k0_pay7 _ _ _ = _
    unfold k0_pay7 k0_pay1
    dsimp only
    rw [shapeCast_ab_1ab_apply]
    refine congrArg₂ (· * ·) ?_ (by rw [shapeCast_self])
    rw [column_apply, slice2_axis1_apply 3 _ _ i (0 : Fin 1) (3 : Fin 4) rfl]
    exact h 3

/-- Row `r` of device `d`'s part of the rows. -/
def grow (d : Dev nD) (r : Fin 128) : Fin 1024 := ⟨128 * d.val + r.val, by have : d.val < 8 := d.isLt; omega⟩

theorem xwrow_apply (c : Dev nD) (j : Fin 4) (d : Dev nD) (r : Fin 128) (k : Fin 256) :
    xwrow m c j d (ix3 (0 : Fin 1) r k) = masked m c (grow d r) (4 * c.val + j.val) * X0 m c (ix2 (grow d r) k) := by
  refine Eq.trans ?_ (slab_apply m c j (grow d r) k)
  show xwBuf m c ((xwrowR j d).emb (ix3 (0 : Fin 1) r k)) = xwBuf m c (ix3 j (grow d r) k)
  refine congrArg (xwBuf m c) (funext fun a => Fin.ext ?_)
  match a with
  | ⟨0, _⟩ => show j.val + 1 * 0 = j.val; omega
  | ⟨1, _⟩ => show 128 * d.val + 1 * r.val = 128 * d.val + r.val; omega
  | ⟨2, _⟩ => show 0 + 1 * k.val = k.val; omega

theorem eslab_apply (c : Dev nD) (j : Fin 4) (k : Fin 256) (h : Fin 512) : eslab m c j (ix3 (0 : Fin 1) k h) = X3 m c (ix3 j k h) := by
  show X3 m c ((eslabR j).emb (ix3 (0 : Fin 1) k h)) = X3 m c (ix3 j k h)
  refine congrArg (X3 m c) (funext fun a => Fin.ext ?_)
  match a with
  | ⟨0, _⟩ => show j.val + 1 * 0 = j.val; omega
  | ⟨1, _⟩ => show 0 + 1 * k.val = k.val; omega
  | ⟨2, _⟩ => show 0 + 1 * h.val = h.val; omega

theorem xrow_apply (c : Dev nD) (r : Fin 128) (k : Fin 256) :
    xM.view.readAt (Elt Ideal) (xrowR c).toLoadRect (X0 m c) (ix2 r k) = X0 m c (ix2 (grow c r) k) := by
  show X0 m c ((xrowR c).emb (ix2 r k)) = _
  refine congrArg (X0 m c) (funext fun a => Fin.ext ?_)
  match a with
  | ⟨0, _⟩ => show 128 * c.val + 1 * r.val = 128 * c.val + r.val; omega
  | ⟨1, _⟩ => show 0 + 1 * k.val = k.val; omega

/-- What local expert `j` of device `c` adds to row `r` of device `d`, in column `h`. -/
def part (c : Dev nD) (j : Fin 4) (d : Dev nD) (r : Fin 128) (h : Fin 512) : EReal :=
  ∑ k : Fin 256, masked m c (grow d r) (4 * c.val + j.val) * X0 m c (ix2 (grow d r) k) * X3 m c (ix3 j k h)

theorem part_apply (c : Dev nD) (j : Fin 4) (d : Dev nD) (r : Fin 128) (h : Fin 512) :
    matmul dot_S128x256_S256x512_S128x512_1_0_0_1_n_n none (shapeCast S128x256 (xwrow m c j d) shapeCasts_S1x128x256_S128x256)
      (shapeCast S256x512 (eslab m c j) shapeCasts_S1x256x512_S256x512) (constant S128x512 .f32 0x00000000#32) (ix2 r h) = part m c j d r h := by
  rw [product_apply]
  refine Finset.sum_congr rfl fun k _ => ?_
  rw [shapeCast_1ab_ab_apply, shapeCast_1ab_ab_apply, xwrow_apply, eslab_apply]

/-- A device's four experts together. -/
def parts (c d : Dev nD) (r : Fin 128) (h : Fin 512) : EReal := ∑ j : Fin 4, part m c j d r h

theorem blk_apply (c d : Dev nD) (r : Fin 128) (h : Fin 512) : blk m c d (ix2 r h) = parts m c d r h := by
  unfold blk k0_pay14
  rw [shapeCast_self]
  show (((Ideal.ofBits .f32 0x00000000#32 + _) + _) + _) + _ = _
  rw [part_apply, part_apply, part_apply, part_apply, Ideal.ofBits_zero_f32, zero_add, parts, Fin.sum_univ_four]

/-- The shared expert's part of row `r` of device `d`. -/
def shared (d : Dev nD) (r : Fin 128) (h : Fin 512) : EReal := ∑ k : Fin 256, X0 m d (ix2 (grow d r) k) * X4 m d (ix2 k h)

theorem own_apply (d : Dev nD) (r : Fin 128) (h : Fin 512) : own m d (ix2 r h) = shared m d r h + parts m d d r h := by
  unfold own k0_pay27 k0_pay25 k0_pay26
  rw [shapeCast_self, shapeCast_self]
  show (((_ + _) + _) + _) + _ = _
  rw [part_apply, part_apply, part_apply, part_apply, product_apply, parts, Fin.sum_univ_four]
  simp only [add_assoc]
  exact congrArg (· + _) (Finset.sum_congr rfl fun k _ => congrArg (· * _) (xrow_apply m d r k))

theorem got_apply (d : Dev nD) (s : Fin 7) (r : Fin 128) (h : Fin 512) :
    shapeCast S128x512 (got m d s) shapeCasts_S1x128x512_S128x512 (ix2 r h) = parts m (src d s) d r h := by
  rw [shapeCast_1ab_ab_apply]
  exact blk_apply m (src d s) d r h

/-- A device and the seven it hears from are all eight. -/
theorem all_devices (d : Dev nD) (f : Dev nD → EReal) : f d + ∑ s : Fin 7, f (src d s) = ∑ c : Dev nD, f c := by
  have e : (Finset.univ : Finset (Dev nD)) = insert d (Finset.univ.image (src d)) := by revert d; decide
  have hd : d ∉ Finset.univ.image (src d) := by revert d; decide
  have hi : Function.Injective (src d) := by revert d; decide
  rw [e, Finset.sum_insert hd, Finset.sum_image fun _ _ _ _ h => hi h]

/-- **The kernel's result, entry by entry**: the shared expert's product and what all devices' experts add. -/
theorem out_apply (d : Dev nD) (r : Fin 128) (h : Fin 512) :
    outAt m d (ix2 r h) = shared m d r h + ∑ c : Dev nD, parts m c d r h := by
  unfold outAt k0_pay30 k0_pay29 k0_pay28
  dsimp only
  show ((((((_ + _) + _) + _) + _) + _) + _) + _ = _
  simp only [own_apply, got_apply]
  rw [← all_devices d fun c => parts m c d r h, Fin.sum_univ_seven]
  simp only [add_assoc]

end Cert.Moe

end
-- ==== Proof.RefValue.lean ====
/- The reference's value over extended reals, entry by entry. -/
module

public import proofs.«01_k».proof.Proof.Gen.ReferenceIdeal.Run
public import proofs.«01_k».proof.Proof.KernelValue
public import Idealize.ShloMosaic.Lib.KernelVsHost
public import Idealize.ShloMosaic.Lib.StackMember
public import Idealize.ShloMosaic.Lib.ReduceAll
public import Idealize.ShloMosaic.Lib.Routing.Ops

@[expose] public section

noncomputable section

namespace Cert.Moe.Ref

open Cert.ReferenceIdeal Cert.ReferenceIdeal.Gen
open Idealize.ShloMosaic Idealize.ShloMosaic.TcCoe
open Idealize.ShloMosaic.ValueIdx

/-! ## The softmax -/

/-- The router's product. -/
theorem scores_apply (x : FVec Ideal S1024x256 .f32) (w : FVec Ideal S256x32 .f32) (i : Fin 1024) (e : Fin 32) :
    Host.dotGeneral dot_S1024x256_S256x32_S1024x32_1_0_0_1_n_n none x w (ix2 i e) = score x w i e :=
  StackMember.dotGeneral_plain_apply (m := 1024) (k := 256) (n := 32) none x w i e

/-- The reference's probabilities. -/
def probs (x : FVec Ideal S1024x256 .f32) (w : FVec Ideal S256x32 .f32) : FVec Ideal S1024x32 .f32 :=
  let s := Host.dotGeneral dot_S1024x256_S256x32_S1024x32_1_0_0_1_n_n none x w
  let ex := Host.exp (subf s (broadcastInDim S1024x32 ![0, 1] bcast_S1024x1_S1024x32_0_1 (broadcastInDim S1024x1 ![0] bcast_S1024_S1024x1_0
    (Host.reduce FloatOps.maximumf s (constant S_ .f32 0xFF800000#32) reducesTo_S1024x32_S1024_d1 h_S_))))
  Host.divf ex (broadcastInDim S1024x32 ![0, 1] bcast_S1024x1_S1024x32_0_1 (broadcastInDim S1024x1 ![0] bcast_S1024_S1024x1_0
    (Host.reduceAdd ex (constant S_ .f32 0x00000000#32) reducesTo_S1024x32_S1024_d1 h_S_)))

theorem probs_apply (x : FVec Ideal S1024x256 .f32) (w : FVec Ideal S256x32 .f32) (i : Fin 1024) (e : Fin 32) :
    probs x w (ix2 i e) = prob (score x w i) e := by
  unfold probs
  dsimp only
  have hm : ∀ v : FVec Ideal S1024x32 .f32, Host.reduce FloatOps.maximumf v (constant S_ .f32 0xFF800000#32) reducesTo_S1024x32_S1024_d1 h_S_
      = multiReduction .maximumf [1] S1024 v 0xFF800000#32 Cert.KernelIdeal.Gen.reduces_S1024x32_S1024 (.inl rfl) rfl := fun v =>
    hostReduce_maximumf_eq_multiReduction v _ reducesTo_S1024x32_S1024_d1 h_S_ Cert.KernelIdeal.Gen.reduces_S1024x32_S1024 (.inl rfl) rfl
  have ha : ∀ v : FVec Ideal S1024x32 .f32, Host.reduceAdd v (constant S_ .f32 0x00000000#32) reducesTo_S1024x32_S1024_d1 h_S_
      = multiReduction .add [1] S1024 v 0x00000000#32 Cert.KernelIdeal.Gen.reduces_S1024x32_S1024 (.inl rfl) rfl := fun v =>
    (multiReduction_add_eq_hostReduceAdd v _ Cert.KernelIdeal.Gen.reduces_S1024x32_S1024 (.inl rfl) rfl (constant S_ .f32 0x00000000#32)
      reducesTo_S1024x32_S1024_d1 h_S_ Ideal.ofBits_zero_f32).symm
  rw [hm, ha]
  have hx : ∀ e', Host.exp (subf (Host.dotGeneral dot_S1024x256_S256x32_S1024x32_1_0_0_1_n_n none x w)
      (broadcastInDim S1024x32 ![0, 1] bcast_S1024x1_S1024x32_0_1 (broadcastInDim S1024x1 ![0] bcast_S1024_S1024x1_0
        (multiReduction .maximumf [1] S1024 (Host.dotGeneral dot_S1024x256_S256x32_S1024x32_1_0_0_1_n_n none x w) 0xFF800000#32
          Cert.KernelIdeal.Gen.reduces_S1024x32_S1024 (.inl rfl) rfl)))) (ix2 i e') = Ideal.exp (score x w i e' - top (score x w i)) := fun e' => by
    show Ideal.exp (_ - _) = _
    rw [Routing.bcRows, rowMax_apply, scores_apply]
    simp only [scores_apply]
  show Ideal.div _ _ = _
  rw [hx, Routing.bcRows, rowSum_apply]
  simp only [hx]
  rfl

/-! ## The index pairs and the bounds test -/

/-- The vector of indices. -/
abbrev ids (idx : IVec S1024x1 32) : IVec S1024 32 := shapeCast _ idx shapeCasts_S1024x1_S1024

theorem ids_apply (idx : IVec S1024x1 32) (i : Fin 1024) : ids idx (ix1 i) = idx (ix2 i (0 : Fin 1)) :=
  Routing.cast21 idx shapeCasts_S1024x1_S1024 i (0 : Fin 1) i (by show i.val = i.val * 1 + 0; omega)

/-- Each row's number beside its index. -/
def pairs (idx : IVec S1024x1 32) : IVec S1024x2 32 :=
  concatenate S1024x2 1 [⟨S1024x1, (broadcastInDim S1024x1 ![0] bcast_S1024_S1024x1_0 (iotaInDim S1024 32 0))⟩,
    ⟨S1024x1, (broadcastInDim S1024x1 ![0] bcast_S1024_S1024x1_0 (ids idx))⟩] concatenates_S1024x1_S1024x1_S1024x2_d1

theorem pairs_row (idx : IVec S1024x1 32) (i : Fin 1024) : pairs idx (ix2 i (0 : Fin 2)) = BitVec.ofNat 32 i.val := by
  refine (concatenate_pair_apply_left (t := S1024x2) (s₁ := S1024x1) (s₂ := S1024x1) (1 : Fin 2) _ _ concatenates_S1024x1_S1024x1_S1024x2_d1 (ix2 i (0 : Fin 2)) rfl (ix2 i (0 : Fin 1)) fun b => ?_).trans ?_
  · match b with
    | ⟨0, _⟩ => rfl
    | ⟨1, _⟩ => rfl
  · rw [Routing.bcCol]; rfl
theorem pairs_idx (idx : IVec S1024x1 32) (i : Fin 1024) : pairs idx (ix2 i (1 : Fin 2)) = idx (ix2 i (0 : Fin 1)) := by
  refine (concatenate_pair_apply_right (t := S1024x2) (s₁ := S1024x1) (s₂ := S1024x1) (1 : Fin 2) _ _ concatenates_S1024x1_S1024x1_S1024x2_d1 (ix2 i (1 : Fin 2)) rfl rfl (ix2 i (0 : Fin 1)) (fun b hb => ?_) rfl).trans ?_
  · match b with
    | ⟨0, _⟩ => rfl
    | ⟨1, _⟩ => exact absurd rfl hb
  · rw [Routing.bcCol, ids_apply]

/-- The largest index allowed, and the test of each coordinate. -/
abbrev lim : IVec S1024x2 32 := broadcastInDim S1024x2 ![0, 1] bcast_S1x2_S1024x2_0_1 (broadcastInDim S1x2 ![1] bcast_S2_S1x2_1 ((fun i => lit0 (S2.rowMajor i))))
abbrev low : IVec S1024x2 32 := broadcastInDim S1024x2 ![] bcast_S_S1024x2 (constantI S_ 32 0#32)
abbrev inside (idx : IVec S1024x1 32) : IVec S1024x2 1 := andi (cmpi .sge (pairs idx) low) (cmpi .sle (pairs idx) lim)
/-- A row passes when both its coordinates do. -/
def passes (idx : IVec S1024x1 32) : IVec S1024 1 := Host.reduce IntOp.andi (inside idx) (constantI S_ 1 1#1) reducesTo_S1024x2_S1024_d1 h_S_

theorem lim_row (i : Fin 1024) : lim (ix2 i (0 : Fin 2)) = 1023#32 := by
  unfold lim
  rw [Routing.bcCols]; rfl
theorem lim_idx (i : Fin 1024) : lim (ix2 i (1 : Fin 2)) = 31#32 := by
  unfold lim
  rw [Routing.bcCols]; rfl

theorem inside_iff (idx : IVec S1024x1 32) (p : S1024x2.Idx) : inside idx p = 1#1 ↔ 0 ≤ (pairs idx p).toInt ∧ (pairs idx p).toInt ≤ (lim p).toInt := by
  show IntOp.andi (IntOp.cmpi .sge (pairs idx p) (low p)) (IntOp.cmpi .sle (pairs idx p) (lim p)) = 1#1 ↔ _
  rw [IntOp.andi_eq_one, IntOp.cmpi_sge, IntOp.cmpi_sle]
  rfl

/-- A row whose index names an expert passes; -/
theorem passes_expert (idx : IVec S1024x1 32) (i : Fin 1024) (n : Fin 32) (h : idx (ix2 i (0 : Fin 1)) = BitVec.ofNat 32 n.val) : passes idx (ix1 i) = 1#1 := by
  unfold passes
  rw [Host.reduce_eq_foldl]
  refine IntOp.foldl_andi_one _ _ _ rfl fun p hp => ?_
  have hd : reducesTo_S1024x2_S1024_d1.drop p = ix1 i := by simpa using (List.mem_filter.1 hp).2
  have h0 : (p 0).val = i.val := congrArg (fun q : S1024.Idx => (q 0).val) hd
  rw [inside_iff]
  have h1 : p = ix2 i (p 1) := by
    funext a; apply Fin.ext
    match a with
    | ⟨0, _⟩ => exact h0
    | ⟨1, _⟩ => rfl
  rw [h1]
  generalize p 1 = q
  match q with
  | ⟨0, _⟩ =>
    have := i.isLt
    refine (congrArg₂ (fun u v : BitVec 32 => 0 ≤ u.toInt ∧ u.toInt ≤ v.toInt) (pairs_row idx i) (lim_row i)).mpr ?_
    rw [StableHlo.Predicate.toInt_ofNat_small _ (by omega)]
    exact ⟨by omega, by show (i.val : ℤ) ≤ 1023; omega⟩
  | ⟨1, _⟩ =>
    have := n.isLt
    refine (congrArg₂ (fun u v : BitVec 32 => 0 ≤ u.toInt ∧ u.toInt ≤ v.toInt) ((pairs_idx idx i).trans h) (lim_idx i)).mpr ?_
    rw [StableHlo.Predicate.toInt_ofNat_small _ (by omega)]
    exact ⟨by omega, by show (n.val : ℤ) ≤ 31; omega⟩
/-- and one that passes names an expert. -/
theorem expert_of_passes (idx : IVec S1024x1 32) (i : Fin 1024) (h : passes idx (ix1 i) = 1#1) : ∃ n : Fin 32, idx (ix2 i (0 : Fin 1)) = BitVec.ofNat 32 n.val := by
  have h1 := Host.reduce_andi_eq_one _ _ _ _ _ h (ix2 i (1 : Fin 2)) (by
    funext a; apply Fin.ext
    match a with
    | ⟨0, _⟩ => rfl)
  rw [inside_iff, pairs_idx, lim_idx] at h1
  obtain ⟨l, u⟩ := h1
  have u' : (idx (ix2 i (0 : Fin 1))).toInt ≤ 31 := u
  generalize idx (ix2 i (0 : Fin 1)) = e at l u'
  have he : e.toInt = e.toNat := by
    have hc := BitVec.toInt_eq_toNat_cond e
    have := e.isLt
    split at hc <;> omega
  refine ⟨⟨e.toNat, by omega⟩, ?_⟩
  simp

/-! ## The two gathers and the routed product -/

/-- The probability read at a row whose index names expert `n`. -/
theorem pick_apply (P : FVec Ideal S1024x32 .f32) (idx : IVec S1024x1 32) (i : Fin 1024) (n : Fin 32) (h : idx (ix2 i (0 : Fin 1)) = BitVec.ofNat 32 n.val) :
    Host.gather gather_S1024x32_S1024x2_S1024_n_01_n_n_01_1_11 P (pairs idx) (ix1 i) = P (ix2 i n) := by
  have hs : ∀ a : Fin 2, (gather_S1024x32_S1024x2_S1024_n_01_n_n_01_1_11.siIdx (ix1 i) a) = ix2 i a := fun a => by
    funext b; apply Fin.ext
    match b with
    | ⟨0, _⟩ => rfl
    | ⟨1, _⟩ => rfl
  have := i.isLt
  have := n.isLt
  unfold Host.gather
  refine congrArg P (funext fun a => Fin.ext ?_)
  match a with
  | ⟨0, _⟩ =>
    show min (pairs idx (gather_S1024x32_S1024x2_S1024_n_01_n_n_01_1_11.siIdx (ix1 i) (0 : Fin 2))).toInt.toNat 1023 + 0 + 0 = i.val
    rw [hs, pairs_row, StableHlo.Predicate.toInt_ofNat_small _ (by omega)]
    omega
  | ⟨1, _⟩ =>
    show min (pairs idx (gather_S1024x32_S1024x2_S1024_n_01_n_n_01_1_11.siIdx (ix1 i) (1 : Fin 2))).toInt.toNat 31 + 0 + 0 = n.val
    rw [hs, pairs_idx, h, StableHlo.Predicate.toInt_ofNat_small _ (by omega)]
    omega

/-- The weights read at such a row are expert `n`'s. -/
theorem weights_apply (W : FVec Ideal S32x256x512 .f32) (idx : IVec S1024x1 32) (i : Fin 1024) (n : Fin 32) (h : idx (ix2 i (0 : Fin 1)) = BitVec.ofNat 32 n.val)
    (k : Fin 256) (c : Fin 512) :
    Host.gather gather_S32x256x512_S1024x1_S1024x256x512_12_0_n_n_0_1_1256512 W (broadcastInDim S1024x1 ![0] bcast_S1024_S1024x1_0 (ids idx)) (ix3 i k c)
      = W (ix3 n k c) := by
  have hs : gather_S32x256x512_S1024x1_S1024x256x512_12_0_n_n_0_1_1256512.siIdx (ix3 i k c) (0 : Fin 1) = ix2 i (0 : Fin 1) := by
    funext b; apply Fin.ext
    match b with
    | ⟨0, _⟩ => rfl
    | ⟨1, _⟩ => rfl
  have := n.isLt
  unfold Host.gather
  refine congrArg W (funext fun a => Fin.ext ?_)
  match a with
  | ⟨0, _⟩ =>
    show min (broadcastInDim S1024x1 ![0] bcast_S1024_S1024x1_0 (ids idx)
      (gather_S32x256x512_S1024x1_S1024x256x512_12_0_n_n_0_1_1256512.siIdx (ix3 i k c) (0 : Fin 1))).toInt.toNat 31 + 0 + 0 = n.val
    rw [hs, Routing.bcCol, ids_apply, h, StableHlo.Predicate.toInt_ofNat_small _ (by omega)]
    omega
  | ⟨1, _⟩ => show 0 + 0 + k.val = k.val; omega
  | ⟨2, _⟩ => show 0 + 0 + c.val = c.val; omega

/-- Each row times its own matrix. -/
theorem routed_apply (x : FVec Ideal S1024x256 .f32) (w : FVec Ideal S1024x256x512 .f32) (i : Fin 1024) (c : Fin 512) :
    Host.dotGeneral dot_S1024x256_S1024x256x512_S1024x512_1_1_n_2_0_0 none x w (ix2 i c) = ∑ k : Fin 256, x (ix2 i k) * w (ix3 i k c) := by
  show FloatOps.dotGeneral _ none _ x w (ix2 i c) = _
  rw [Ideal.dotGeneral_apply, ← Equiv.sum_comp (contrEquiv1 dot_S1024x256_S1024x256x512_S1024x512_1_1_n_2_0_0 256 rfl rfl).symm]
  refine Finset.sum_congr rfl fun k _ => ?_
  have hk := contrEquiv1_symm_val dot_S1024x256_S1024x256x512_S1024x512_1_1_n_2_0_0 256 rfl rfl k
  refine congrArg₂ (· * ·) (congrArg x ?_) (congrArg w ?_)
  · funext a; apply Fin.ext
    match a with
    | ⟨0, _⟩ => rfl
    | ⟨1, _⟩ => exact hk
  · funext a; apply Fin.ext
    match a with
    | ⟨0, _⟩ => rfl
    | ⟨1, _⟩ => exact hk
    | ⟨2, _⟩ => rfl

/-! ## The whole -/

/-- The reference's result as one term of its arguments. -/
def out (x : FVec Ideal S1024x256 .f32) (w : FVec Ideal S256x32 .f32) (idx : IVec S1024x1 32) (W : FVec Ideal S32x256x512 .f32) (S : FVec Ideal S256x512 .f32) :
    FVec Ideal S1024x512 .f32 :=
  addf (Host.dotGeneral dot_S1024x256_S256x512_S1024x512_1_0_0_1_n_n none x S)
    (mulf (broadcastInDim S1024x512 ![0, 1] bcast_S1024x1_S1024x512_0_1 (broadcastInDim S1024x1 ![0] bcast_S1024_S1024x1_0
        (select (passes idx) (Host.gather gather_S1024x32_S1024x2_S1024_n_01_n_n_01_1_11 (probs x w) (pairs idx))
          (broadcastInDim S1024 ![] bcast_S_S1024 (constant S_ .f32 0x00000000#32)))))
      (Host.dotGeneral dot_S1024x256_S1024x256x512_S1024x512_1_1_n_2_0_0 none x
        (Host.gather gather_S32x256x512_S1024x1_S1024x256x512_12_0_n_n_0_1_1256512 W (broadcastInDim S1024x1 ![0] bcast_S1024_S1024x1_0 (ids idx)))))

/-- At a row routed to expert `n`: the shared expert's product and the gated product with expert `n`'s weights; -/
theorem out_expert (x : FVec Ideal S1024x256 .f32) (w : FVec Ideal S256x32 .f32) (idx : IVec S1024x1 32) (W : FVec Ideal S32x256x512 .f32)
    (S : FVec Ideal S256x512 .f32) (i : Fin 1024) (c : Fin 512) (n : Fin 32) (h : idx (ix2 i (0 : Fin 1)) = BitVec.ofNat 32 n.val) :
    out x w idx W S (ix2 i c) = (∑ k : Fin 256, x (ix2 i k) * S (ix2 k c)) + prob (score x w i) n * ∑ k : Fin 256, x (ix2 i k) * W (ix3 n k c) := by
  refine congrArg₂ (· + ·) (StackMember.dotGeneral_plain_apply (m := 1024) (k := 256) (n := 512) none x S i c) (congrArg₂ (· * ·) ?_ ?_)
  · rw [Routing.bcRows]
    show (if passes idx (ix1 i) = 1#1 then _ else _) = _
    rw [if_pos (passes_expert idx i n h), pick_apply _ idx i n h, probs_apply]
  · rw [routed_apply]
    exact Finset.sum_congr rfl fun k _ => by rw [weights_apply W idx i n h]

/-- at a row routed to none, the shared expert's product alone. -/
theorem out_none (x : FVec Ideal S1024x256 .f32) (w : FVec Ideal S256x32 .f32) (idx : IVec S1024x1 32) (W : FVec Ideal S32x256x512 .f32)
    (S : FVec Ideal S256x512 .f32) (i : Fin 1024) (c : Fin 512) (h : ∀ n : Fin 32, idx (ix2 i (0 : Fin 1)) ≠ BitVec.ofNat 32 n.val) :
    out x w idx W S (ix2 i c) = ∑ k : Fin 256, x (ix2 i k) * S (ix2 k c) := by
  have hz : ∀ r : EReal, (∑ k : Fin 256, x (ix2 i k) * S (ix2 k c)) + 0 * r = ∑ k : Fin 256, x (ix2 i k) * S (ix2 k c) := fun r => by rw [zero_mul, add_zero]
  refine Eq.trans (congrArg₂ (· + ·) (StackMember.dotGeneral_plain_apply (m := 1024) (k := 256) (n := 512) none x S i c) (congrArg₂ (· * ·) ?_ rfl)) (hz _)
  rw [Routing.bcRows]
  show (if passes idx (ix1 i) = 1#1 then _ else _) = (0 : EReal)
  rw [if_neg fun hp => (expert_of_passes idx i hp).elim fun n hn => h n hn, Routing.bc0]
  exact Ideal.ofBits_zero_f32

end Cert.Moe.Ref

end
-- ==== Proof.Algebraic.lean ====
/- The kernel's result and the reference's are one array, where the tokens and the router's weights are finite. -/
module

public import proofs.«01_k».proof.Defs
public import proofs.«01_k».proof.Proof.Ends
public import proofs.«01_k».proof.Proof.KernelValue
public import proofs.«01_k».proof.Proof.RefValue
public import Idealize.ShloMosaic.Lib.Layout

@[expose] public section

noncomputable section

namespace Cert.Moe

open Cert.KernelIdeal Cert.KernelIdeal.Gen
open Idealize.ShloMosaic Idealize.ShloMosaic.TcCoe
open Idealize.SL Idealize.SL.Sem
open Idealize.ShloMosaic.ValueIdx

/-! ## What the precondition says -/

/-- A value whose magnitude is below `+∞` is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

/-- Scores of finite tokens and weights are real numbers. -/
theorem score_real (x : FVec Ideal S1024x256 .f32) (w : FVec Ideal S256x32 .f32) (hx : ∀ i, ∃ r : ℝ, x i = (r : EReal))
    (hw : ∀ i, ∃ r : ℝ, w i = (r : EReal)) (i : Fin 1024) (e : Fin 32) : ∃ r : ℝ, score x w i e = (r : EReal) := by
  choose a ha using hx
  choose b hb using hw
  refine ⟨∑ k : Fin 256, a (ix2 i k) * b (ix2 k e), ?_⟩
  unfold score
  rw [← coe_sum]
  exact Finset.sum_congr rfl fun k _ => by rw [ha, hb, EReal.coe_mul]

/-! ## Eight devices of four experts are thirty-two experts -/

/-- Expert `j` of device `c`. -/
def expert (c : Fin 8) (j : Fin 4) : Fin 32 := ⟨4 * c.val + j.val, by omega⟩

theorem sum_experts (f : Fin 32 → EReal) : ∑ c : Fin 8, ∑ j : Fin 4, f (expert c j) = ∑ n : Fin 32, f n := by
  rw [← Fintype.sum_prod_type']
  refine Fintype.sum_equiv (finProdFinEquiv (m := 8) (n := 4)) _ _ fun p => congrArg f (Fin.ext ?_)
  show 4 * p.1.val + p.2.val = p.2.val + 4 * p.1.val
  omega

/-! ## One array -/

variable (m : (ℓ : Loc nD τ sig) → Buf (Elt Ideal) ℓ)
  (x : FVec Ideal S1024x256 .f32) (w : FVec Ideal S256x32 .f32) (idx : IVec S1024x1 32)
  (W : FVec Ideal Cert.ReferenceIdeal.S32x256x512 .f32) (S : FVec Ideal S256x512 .f32)

/-- The block of a device's experts, by coordinates. -/
theorem experts_block (c : Fin 8) (j : Fin 4) (k : Fin 256) (h : Fin 512) :
    Layout.block ⟨3, ![4, 256, 512]⟩ ⟨3, ![32, 256, 512]⟩ 0 8 c W (by decide) (ix3 j k h) = W (ix3 (expert c j) k h) := by
  rw [Layout.block_apply]
  refine congrArg W ?_
  funext a; apply Fin.ext
  match a with
  | ⟨0, _⟩ => show c.val * 4 + j.val = 4 * c.val + j.val; omega
  | ⟨1, _⟩ => rfl
  | ⟨2, _⟩ => rfl

/-- Every device's entry of the kernel's result is the reference's entry of that row. -/
theorem out_eq (h0 : ∀ c : Dev nD, X0 m c = x) (h1 : ∀ c : Dev nD, X1 m c = w) (h2 : ∀ c : Dev nD, X2 m c = idx)
    (h3 : ∀ (c : Dev nD) (j : Fin 4) (k : Fin 256) (h : Fin 512), X3 m c (ix3 j k h) = W (ix3 (expert c j) k h)) (h4 : ∀ c : Dev nD, X4 m c = S)
    (hx : ∀ i, ∃ r : ℝ, x i = (r : EReal)) (hw : ∀ i, ∃ r : ℝ, w i = (r : EReal)) (d : Dev nD) (r : Fin 128) (h : Fin 512) :
    outAt m d (ix2 r h) = Ref.out x w idx W S (ix2 (grow d r) h) := by
  have hp : ∑ c : Dev nD, parts m c d r h = ∑ n : Fin 32, term (gateOf (score x w (grow d r)) (idx (ix2 (grow d r) (0 : Fin 1))))
      (bit (idx (ix2 (grow d r) (0 : Fin 1))) (BitVec.ofNat 32 n.val)) (fun k => x (ix2 (grow d r) k)) (fun k => W (ix3 n k h)) := by
    rw [← sum_experts]
    refine Finset.sum_congr rfl fun c _ => Finset.sum_congr rfl fun j _ => ?_
    unfold part term masked
    rw [h0, h1, h2]
    exact Finset.sum_congr rfl fun k _ => by rw [h3]; rfl
  have hs : shared m d r h = ∑ k : Fin 256, x (ix2 (grow d r) k) * S (ix2 k h) := by
    unfold shared
    rw [h0, h4]
  rw [out_apply, hp, hs]
  by_cases hn : ∃ n : Fin 32, idx (ix2 (grow d r) (0 : Fin 1)) = BitVec.ofNat 32 n.val
  · obtain ⟨n, hn⟩ := hn
    rw [Ref.out_expert x w idx W S (grow d r) h n hn, hn]
    exact congrArg _ (terms_expert _ (score_real x w hx hw (grow d r)) n (fun k => x (ix2 (grow d r) k)) (fun n k => W (ix3 n k h)))
  · have hn' : ∀ n : Fin 32, idx (ix2 (grow d r) (0 : Fin 1)) ≠ BitVec.ofNat 32 n.val := fun n e => hn ⟨n, e⟩
    rw [Ref.out_none x w idx W S (grow d r) h hn']
    exact (congrArg _ (terms_none _ _ hn' (fun k => x (ix2 (grow d r) k)) (fun n k => W (ix3 n k h)))).trans (add_zero _)

/-- So what a device ends with is its block of rows of the reference's result. -/
theorem out_block (h0 : ∀ c : Dev nD, X0 m c = x) (h1 : ∀ c : Dev nD, X1 m c = w) (h2 : ∀ c : Dev nD, X2 m c = idx)
    (h3 : ∀ (c : Dev nD) (j : Fin 4) (k : Fin 256) (h : Fin 512), X3 m c (ix3 j k h) = W (ix3 (expert c j) k h)) (h4 : ∀ c : Dev nD, X4 m c = S)
    (hx : ∀ i, ∃ r : ℝ, x i = (r : EReal)) (hw : ∀ i, ∃ r : ℝ, w i = (r : EReal)) (d : Dev nD) :
    outAt m d = Layout.block ⟨2, ![128, 512]⟩ ⟨2, ![1024, 512]⟩ 0 8 d (Ref.out x w idx W S) := by
  funext i
  obtain ⟨r, h, rfl⟩ : ∃ (r : Fin 128) (h : Fin 512), i = ix2 r h := ⟨i 0, i 1, by
    funext a
    match a with
    | ⟨0, _⟩ => rfl
    | ⟨1, _⟩ => rfl⟩
  rw [out_eq m x w idx W S h0 h1 h2 h3 h4 hx hw d r h, Layout.block_apply]
  refine congrArg (Ref.out x w idx W S) ?_
  funext a; apply Fin.ext
  match a with
  | ⟨0, _⟩ => show 128 * d.val + r.val = d.val * 128 + r.val; omega
  | ⟨1, _⟩ => rfl

/-- The kernel over extended reals computes the reference's result, each device its block of rows. -/
theorem algebraic [Cert.Pre_router_finite_KernelIdeal.Facts] : Cert.algebraic_KernelIdeal_ReferenceIdeal_pre_router_finite_KernelIdeal := by
  intro m g m' g' hpre hin
  refine ⟨Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun _ hr c => ⟨((hr.1 c).1).trans ?_, (hr.1 c).2⟩) (run_main (F := Ideal) m g)
    refine out_block m _ _ _ _ _ (fun c => (X0_eq m c).trans (hin c).1) (fun c => (X1_eq m c).trans (hin c).2.1) (fun c => (X2_eq m c).trans (hin c).2.2.1)
      (fun c j k h => ((congrFun (X3_eq m c) (ix3 j k h)).trans (congrFun (hin c).2.2.2.1 (ix3 j k h))).trans (experts_block _ c j k h))
      (fun c => (X4_eq m c).trans (hin c).2.2.2.2) ?_ ?_ c
    · rw [← (hin c).1]
      exact fun i => real_of_lt _ (congrFun (hpre c).1 i)
    · rw [← (hin c).2.1]
      exact fun i => real_of_lt _ (congrFun (hpre c).2 i)
  · exact (θ_run Cert.ReferenceIdeal.defs _ _).mono (fun _ hr => hr 0) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The precondition's broadcasts. -/
theorem facts_kernel : Cert.Pre_router_finite_KernelIdeal.Facts := ⟨by decide, by decide⟩
theorem facts_reference : Cert.Pre_router_finite_ReferenceIdeal.Facts := ⟨by decide, by decide⟩

theorem claim : Cert.Claim := ⟨Cert.Kernel.Gen.facts, Cert.KernelIdeal.Gen.facts, Cert.ReferenceIdeal.Gen.facts, facts_kernel, facts_reference,
  Cert.Moe.frame_kernel, Cert.Moe.frame_kernelIdeal, fun m g _ => Cert.Moe.frame_kernelIdeal m g trivial,
  Cert.Moe.frame_reference, fun m g _ => Cert.Moe.frame_reference m g trivial, trivial,
  @Cert.Moe.algebraic facts_kernel⟩

end Cert.Proof

end
